-- ==== Defs.lean ====
def Pre_Kernel [hPre_t_idx_in_range : Cert.Pre_t_idx_in_range.Facts] (m : (ℓ : Loc Cert.Kernel.nD Cert.Kernel.τ Cert.Kernel.sig) → Buf (Elt Bits) ℓ) : Prop :=
  ∀ c : Dev Cert.Kernel.nD,
    (Cert.Pre_t_idx_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_t_idx_in_range : Cert.Pre_t_idx_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_t_idx_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_t_idx_in_range [hPre_t_idx_in_range : Cert.Pre_t_idx_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_t_idx_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_t_idx_in_range : Cert.Pre_t_idx_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_t_idx_in_range : Cert.Pre_t_idx_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_t_idx_in_range [hReferenceIdeal : Cert.ReferenceIdeal.Facts] [hPre_t_idx_in_range : Cert.Pre_t_idx_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_t_idx_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_t_idx_in_range : Cert.Pre_t_idx_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_t_idx_in_range : Cert.Pre_t_idx_in_range.Facts),
    quiescent_Kernel (hKernel := hKernel) (hPre_t_idx_in_range := hPre_t_idx_in_range)
    ∧ quiescent_KernelIdeal (hKernelIdeal := hKernelIdeal) (hPre_t_idx_in_range := hPre_t_idx_in_range)
    ∧ quiescent_ReferenceIdeal (hReferenceIdeal := hReferenceIdeal)
    ∧ quiescent_ReferenceIdeal_pre_t_idx_in_range (hReferenceIdeal := hReferenceIdeal) (hPre_t_idx_in_range := hPre_t_idx_in_range)
    ∧ preserves_Kernel_KernelIdeal
    ∧ algebraic_KernelIdeal_ReferenceIdeal (hKernelIdeal := hKernelIdeal) (hReferenceIdeal := hReferenceIdeal) (hPre_t_idx_in_range := hPre_t_idx_in_range)
-- ==== Pre_t_idx_in_range.lean ====
abbrev S4x16x192x56x56 : Shape := ⟨5, ![4, 16, 192, 56, 56]⟩
abbrev S16 : Shape := ⟨1, ![16]⟩
abbrev S1x1000x192 : Shape := ⟨3, ![1, 1000, 192]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S4x16x192x56x56 .f32) (main_arg1 : IVec S16 32) (main_arg2 : FVec F S1x1000x192 .f32) : IVec S16 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 1000#32
  let main_v2 : IVec S16 32 := broadcastInDim S16 ![] bcast_S_S16 main_c_0
  let main_v3 : IVec S16 1 := cmpi .slt main_arg1 main_v2
  let main_v4 : IVec S16 1 := andi main_v1 main_v3
  main_v4
-- ==== Kernel.lean ====
abbrev S4x16x192x56x56 : Shape := ⟨5, ![4, 16, 192, 56, 56]⟩
abbrev S16 : Shape := ⟨1, ![16]⟩
abbrev S1x1000x192 : Shape := ⟨3, ![1, 1000, 192]⟩
abbrev S4x16x192x3136 : Shape := ⟨4, ![4, 16, 192, 3136]⟩
abbrev S1000x192 : Shape := ⟨2, ![1000, 192]⟩
abbrev S8x192x3136 : Shape := ⟨3, ![8, 192, 3136]⟩
abbrev S8 : Shape := ⟨1, ![8]⟩
abbrev S1 : Shape := ⟨1, ![1]⟩
abbrev S_ : Shape := ⟨0, ![]⟩
abbrev S1x192x3136 : Shape := ⟨3, ![1, 192, 3136]⟩
abbrev S192x3136 : Shape := ⟨2, ![192, 3136]⟩
abbrev S1x1x192x3136 : Shape := ⟨4, ![1, 1, 192, 3136]⟩
abbrev S1x192 : Shape := ⟨2, ![1, 192]⟩
abbrev S192 : Shape := ⟨1, ![192]⟩
abbrev S192x1 : Shape := ⟨2, ![192, 1]⟩

abbrev nBuf : Space → Nat
  | .hbm => 7
  | .vmem => 3
  | .smem => 1
  | _ => 0

abbrev bufTy : (tb : Table) → Fin (tcTables nBuf tb) → BufTy
  | .hbm, ⟨0, _⟩ => ⟨S4x16x192x56x56, .f32⟩
  | .hbm, ⟨1, _⟩ => ⟨S16, .i32⟩
  | .hbm, ⟨2, _⟩ => ⟨S1x1000x192, .f32⟩
  | .hbm, ⟨3, _⟩ => ⟨S4x16x192x3136, .f32⟩
  | .hbm, ⟨4, _⟩ => ⟨S1000x192, .f32⟩
  | .hbm, ⟨5, _⟩ => ⟨S4x16x192x3136, .f32⟩
  | .hbm, ⟨6, _⟩ => ⟨S4x16x192x56x56, .f32⟩
  | .local _ .vmem, ⟨0, _⟩ => ⟨S1000x192, .f32⟩
  | .local _ .vmem, ⟨1, _⟩ => ⟨S8x192x3136, .f32⟩
  | .local _ .vmem, ⟨2, _⟩ => ⟨S8x192x3136, .f32⟩
  | .local _ .smem, ⟨0, _⟩ => ⟨S16, .i32⟩
  | _, _ => ⟨S4x16x192x56x56, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg1_0 : Ref sig .tc := ⟨.vmem, 0, rfl⟩
abbrev cc0_scratch0 : Ref sig .tc := ⟨.vmem, 1, rfl⟩
abbrev cc0_scratch1 : Ref sig .tc := ⟨.vmem, 2, rfl⟩
abbrev cc0_stg0_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_off1 (v48 : BitVec 32) : Fin 2 → Nat :=
  let v55 : Index := Scalar.indexCast v48
  let c0_64 : Index := 0#32
  ![v55.toNat, 0]

def k0_chk1 (v48 : BitVec 32) : Prop :=
  (∀ a, (k0_off1 v48) a + S1x192.size a ≤ S1000x192.size a)
theorem k0_off1_inb : ∀ (v48 : BitVec 32) (k0_hw1 : k0_chk1 v48), ∀ a, (k0_off1 v48) a + S1x192.size a ≤ S1000x192.size a := fun v48 k0_hw1 => k0_hw1

def k0_off2 (v79 : BitVec 32) : Fin 2 → Nat :=
  let v86 : Index := Scalar.indexCast v79
  let c0_94 : Index := 0#32
  ![v86.toNat, 0]

def k0_chk2 (v79 : BitVec 32) : Prop :=
  (∀ a, (k0_off2 v79) a + S1x192.size a ≤ S1000x192.size a)
theorem k0_off2_inb : ∀ (v79 : BitVec 32) (k0_hw2 : k0_chk2 v79), ∀ a, (k0_off2 v79) a + S1x192.size a ≤ S1000x192.size a := fun v79 k0_hw2 => k0_hw2

def k0_off3 (v110 : BitVec 32) : Fin 2 → Nat :=
  let v117 : Index := Scalar.indexCast v110
  let c0_124 : Index := 0#32
  ![v117.toNat, 0]

def k0_chk3 (v110 : BitVec 32) : Prop :=
  (∀ a, (k0_off3 v110) a + S1x192.size a ≤ S1000x192.size a)
theorem k0_off3_inb : ∀ (v110 : BitVec 32) (k0_hw3 : k0_chk3 v110), ∀ a, (k0_off3 v110) a + S1x192.size a ≤ S1000x192.size a := fun v110 k0_hw3 => k0_hw3

def k0_off4 (v141 : BitVec 32) : Fin 2 → Nat :=
  let v148 : Index := Scalar.indexCast v141
  let c0_154 : Index := 0#32
  ![v148.toNat, 0]

def k0_chk4 (v141 : BitVec 32) : Prop :=
  (∀ a, (k0_off4 v141) a + S1x192.size a ≤ S1000x192.size a)
theorem k0_off4_inb : ∀ (v141 : BitVec 32) (k0_hw4 : k0_chk4 v141), ∀ a, (k0_off4 v141) a + S1x192.size a ≤ S1000x192.size a := fun v141 k0_hw4 => k0_hw4

def k0_off5 (v172 : BitVec 32) : Fin 2 → Nat :=
  let v179 : Index := Scalar.indexCast v172
  let c0_184 : Index := 0#32
  ![v179.toNat, 0]

def k0_chk5 (v172 : BitVec 32) : Prop :=
  (∀ a, (k0_off5 v172) a + S1x192.size a ≤ S1000x192.size a)
theorem k0_off5_inb : ∀ (v172 : BitVec 32) (k0_hw5 : k0_chk5 v172), ∀ a, (k0_off5 v172) a + S1x192.size a ≤ S1000x192.size a := fun v172 k0_hw5 => k0_hw5

def k0_off6 (v203 : BitVec 32) : Fin 2 → Nat :=
  let v210 : Index := Scalar.indexCast v203
  let c0_214 : Index := 0#32
  ![v210.toNat, 0]

def k0_chk6 (v203 : BitVec 32) : Prop :=
  (∀ a, (k0_off6 v203) a + S1x192.size a ≤ S1000x192.size a)
theorem k0_off6_inb : ∀ (v203 : BitVec 32) (k0_hw6 : k0_chk6 v203), ∀ a, (k0_off6 v203) a + S1x192.size a ≤ S1000x192.size a := fun v203 k0_hw6 => k0_hw6

def k0_off7 (v234 : BitVec 32) : Fin 2 → Nat :=
  let v241 : Index := Scalar.indexCast v234
  let c0_244 : Index := 0#32
  ![v241.toNat, 0]

def k0_chk7 (v234 : BitVec 32) : Prop :=
  (∀ a, (k0_off7 v234) a + S1x192.size a ≤ S1000x192.size a)
theorem k0_off7_inb : ∀ (v234 : BitVec 32) (k0_hw7 : k0_chk7 v234), ∀ a, (k0_off7 v234) a + S1x192.size a ≤ S1000x192.size a := fun v234 k0_hw7 => k0_hw7

def k0_off8 (v265 : BitVec 32) : Fin 2 → Nat :=
  let v272 : Index := Scalar.indexCast v265
  let c0_274 : Index := 0#32
  ![v272.toNat, 0]

def k0_chk8 (v265 : BitVec 32) : Prop :=
  (∀ a, (k0_off8 v265) a + S1x192.size a ≤ S1000x192.size a)
theorem k0_off8_inb : ∀ (v265 : BitVec 32) (k0_hw8 : k0_chk8 v265), ∀ a, (k0_off8 v265) a + S1x192.size a ≤ S1000x192.size a := fun v265 k0_hw8 => k0_hw8

def k0_off9 (v296 : BitVec 32) : Fin 2 → Nat :=
  let v309 : Index := Scalar.indexCast v296
  let c0_312 : Index := 0#32
  ![v309.toNat, 0]

def k0_chk9 (v296 : BitVec 32) : Prop :=
  (∀ a, (k0_off9 v296) a + S1x192.size a ≤ S1000x192.size a)
theorem k0_off9_inb : ∀ (v296 : BitVec 32) (k0_hw9 : k0_chk9 v296), ∀ a, (k0_off9 v296) a + S1x192.size a ≤ S1000x192.size a := fun v296 k0_hw9 => k0_hw9

def k0_off10 (v333 : BitVec 32) : Fin 2 → Nat :=
  let v346 : Index := Scalar.indexCast v333
  let c0_351 : Index := 0#32
  ![v346.toNat, 0]

def k0_chk10 (v333 : BitVec 32) : Prop :=
  (∀ a, (k0_off10 v333) a + S1x192.size a ≤ S1000x192.size a)
theorem k0_off10_inb : ∀ (v333 : BitVec 32) (k0_hw10 : k0_chk10 v333), ∀ a, (k0_off10 v333) a + S1x192.size a ≤ S1000x192.size a := fun v333 k0_hw10 => k0_hw10

def k0_off11 (v370 : BitVec 32) : Fin 2 → Nat :=
  let v383 : Index := Scalar.indexCast v370
  let c0_390 : Index := 0#32
  ![v383.toNat, 0]

def k0_chk11 (v370 : BitVec 32) : Prop :=
  (∀ a, (k0_off11 v370) a + S1x192.size a ≤ S1000x192.size a)
theorem k0_off11_inb : ∀ (v370 : BitVec 32) (k0_hw11 : k0_chk11 v370), ∀ a, (k0_off11 v370) a + S1x192.size a ≤ S1000x192.size a := fun v370 k0_hw11 => k0_hw11

def k0_off12 (v407 : BitVec 32) : Fin 2 → Nat :=
  let v420 : Index := Scalar.indexCast v407
  let c0_429 : Index := 0#32
  ![v420.toNat, 0]

def k0_chk12 (v407 : BitVec 32) : Prop :=
  (∀ a, (k0_off12 v407) a + S1x192.size a ≤ S1000x192.size a)
theorem k0_off12_inb : ∀ (v407 : BitVec 32) (k0_hw12 : k0_chk12 v407), ∀ a, (k0_off12 v407) a + S1x192.size a ≤ S1000x192.size a := fun v407 k0_hw12 => k0_hw12

def k0_off13 (v444 : BitVec 32) : Fin 2 → Nat :=
  let v457 : Index := Scalar.indexCast v444
  let c0_468 : Index := 0#32
  ![v457.toNat, 0]

def k0_chk13 (v444 : BitVec 32) : Prop :=
  (∀ a, (k0_off13 v444) a + S1x192.size a ≤ S1000x192.size a)
theorem k0_off13_inb : ∀ (v444 : BitVec 32) (k0_hw13 : k0_chk13 v444), ∀ a, (k0_off13 v444) a + S1x192.size a ≤ S1000x192.size a := fun v444 k0_hw13 => k0_hw13

def k0_off14 (v481 : BitVec 32) : Fin 2 → Nat :=
  let v494 : Index := Scalar.indexCast v481
  let c0_507 : Index := 0#32
  ![v494.toNat, 0]

def k0_chk14 (v481 : BitVec 32) : Prop :=
  (∀ a, (k0_off14 v481) a + S1x192.size a ≤ S1000x192.size a)
theorem k0_off14_inb : ∀ (v481 : BitVec 32) (k0_hw14 : k0_chk14 v481), ∀ a, (k0_off14 v481) a + S1x192.size a ≤ S1000x192.size a := fun v481 k0_hw14 => k0_hw14

def k0_off15 (v518 : BitVec 32) : Fin 2 → Nat :=
  let v531 : Index := Scalar.indexCast v518
  let c0_546 : Index := 0#32
  ![v531.toNat, 0]

def k0_chk15 (v518 : BitVec 32) : Prop :=
  (∀ a, (k0_off15 v518) a + S1x192.size a ≤ S1000x192.size a)
theorem k0_off15_inb : ∀ (v518 : BitVec 32) (k0_hw15 : k0_chk15 v518), ∀ a, (k0_off15 v518) a + S1x192.size a ≤ S1000x192.size a := fun v518 k0_hw15 => k0_hw15

def k0_off16 (v555 : BitVec 32) : Fin 2 → Nat :=
  let v568 : Index := Scalar.indexCast v555
  let c0_585 : Index := 0#32
  ![v568.toNat, 0]

def k0_chk16 (v555 : BitVec 32) : Prop :=
  (∀ a, (k0_off16 v555) a + S1x192.size a ≤ S1000x192.size a)
theorem k0_off16_inb : ∀ (v555 : BitVec 32) (k0_hw16 : k0_chk16 v555), ∀ a, (k0_off16 v555) a + S1x192.size a ≤ S1000x192.size a := fun v555 k0_hw16 => k0_hw16

def k0_off17 (v592 : BitVec 32) : Fin 2 → Nat :=
  let v605 : Index := Scalar.indexCast v592
  let c0_625 : Index := 0#32
  ![v605.toNat, 0]

def k0_chk17 (v592 : BitVec 32) : Prop :=
  (∀ a, (k0_off17 v592) a + S1x192.size a ≤ S1000x192.size a)
theorem k0_off17_inb : ∀ (v592 : BitVec 32) (k0_hw17 : k0_chk17 v592), ∀ a, (k0_off17 v592) a + S1x192.size a ≤ S1000x192.size a := fun v592 k0_hw17 => k0_hw17

def k0_off18 (v629 : BitVec 32) : Fin 2 → Nat :=
  let v642 : Index := Scalar.indexCast v629
  let c0_665 : Index := 0#32
  ![v642.toNat, 0]

def k0_chk18 (v629 : BitVec 32) : Prop :=
  (∀ a, (k0_off18 v629) a + S1x192.size a ≤ S1000x192.size a)
theorem k0_off18_inb : ∀ (v629 : BitVec 32) (k0_hw18 : k0_chk18 v629), ∀ a, (k0_off18 v629) a + S1x192.size a ≤ S1000x192.size a := fun v629 k0_hw18 => k0_hw18

def k0_off19 (v666 : BitVec 32) : Fin 2 → Nat :=
  let v679 : Index := Scalar.indexCast v666
  let c0_705 : Index := 0#32
  ![v679.toNat, 0]

def k0_chk19 (v666 : BitVec 32) : Prop :=
  (∀ a, (k0_off19 v666) a + S1x192.size a ≤ S1000x192.size a)
theorem k0_off19_inb : ∀ (v666 : BitVec 32) (k0_hw19 : k0_chk19 v666), ∀ a, (k0_off19 v666) a + S1x192.size a ≤ S1000x192.size a := fun v666 k0_hw19 => k0_hw19

def k0_off20 (v703 : BitVec 32) : Fin 2 → Nat :=
  let v716 : Index := Scalar.indexCast v703
  let c0_745 : Index := 0#32
  ![v716.toNat, 0]

def k0_chk20 (v703 : BitVec 32) : Prop :=
  (∀ a, (k0_off20 v703) a + S1x192.size a ≤ S1000x192.size a)
theorem k0_off20_inb : ∀ (v703 : BitVec 32) (k0_hw20 : k0_chk20 v703), ∀ a, (k0_off20 v703) a + S1x192.size a ≤ S1000x192.size a := fun v703 k0_hw20 => k0_hw20

def k0_off21 (v740 : BitVec 32) : Fin 2 → Nat :=
  let v753 : Index := Scalar.indexCast v740
  let c0_785 : Index := 0#32
  ![v753.toNat, 0]

def k0_chk21 (v740 : BitVec 32) : Prop :=
  (∀ a, (k0_off21 v740) a + S1x192.size a ≤ S1000x192.size a)
theorem k0_off21_inb : ∀ (v740 : BitVec 32) (k0_hw21 : k0_chk21 v740), ∀ a, (k0_off21 v740) a + S1x192.size a ≤ S1000x192.size a := fun v740 k0_hw21 => k0_hw21

def k0_off22 (v777 : BitVec 32) : Fin 2 → Nat :=
  let v790 : Index := Scalar.indexCast v777
  let c0_825 : Index := 0#32
  ![v790.toNat, 0]

def k0_chk22 (v777 : BitVec 32) : Prop :=
  (∀ a, (k0_off22 v777) a + S1x192.size a ≤ S1000x192.size a)
theorem k0_off22_inb : ∀ (v777 : BitVec 32) (k0_hw22 : k0_chk22 v777), ∀ a, (k0_off22 v777) a + S1x192.size a ≤ S1000x192.size a := fun v777 k0_hw22 => k0_hw22

def k0_off23 (v814 : BitVec 32) : Fin 2 → Nat :=
  let v827 : Index := Scalar.indexCast v814
  let c0_865 : Index := 0#32
  ![v827.toNat, 0]

def k0_chk23 (v814 : BitVec 32) : Prop :=
  (∀ a, (k0_off23 v814) a + S1x192.size a ≤ S1000x192.size a)
theorem k0_off23_inb : ∀ (v814 : BitVec 32) (k0_hw23 : k0_chk23 v814), ∀ a, (k0_off23 v814) a + S1x192.size a ≤ S1000x192.size a := fun v814 k0_hw23 => k0_hw23

def k0_off24 (v851 : BitVec 32) : Fin 2 → Nat :=
  let v864 : Index := Scalar.indexCast v851
  let c0_905 : Index := 0#32
  ![v864.toNat, 0]

def k0_chk24 (v851 : BitVec 32) : Prop :=
  (∀ a, (k0_off24 v851) a + S1x192.size a ≤ S1000x192.size a)
theorem k0_off24_inb : ∀ (v851 : BitVec 32) (k0_hw24 : k0_chk24 v851), ∀ a, (k0_off24 v851) a + S1x192.size a ≤ S1000x192.size a := fun v851 k0_hw24 => k0_hw24

def k0_off25 (v888 : BitVec 32) : Fin 2 → Nat :=
  let v901 : Index := Scalar.indexCast v888
  let c0_945 : Index := 0#32
  ![v901.toNat, 0]

def k0_chk25 (v888 : BitVec 32) : Prop :=
  (∀ a, (k0_off25 v888) a + S1x192.size a ≤ S1000x192.size a)
theorem k0_off25_inb : ∀ (v888 : BitVec 32) (k0_hw25 : k0_chk25 v888), ∀ a, (k0_off25 v888) a + S1x192.size a ≤ S1000x192.size a := fun v888 k0_hw25 => k0_hw25

def k0_off26 (v925 : BitVec 32) : Fin 2 → Nat :=
  let v938 : Index := Scalar.indexCast v925
  let c0_985 : Index := 0#32
  ![v938.toNat, 0]

def k0_chk26 (v925 : BitVec 32) : Prop :=
  (∀ a, (k0_off26 v925) a + S1x192.size a ≤ S1000x192.size a)
theorem k0_off26_inb : ∀ (v925 : BitVec 32) (k0_hw26 : k0_chk26 v925), ∀ a, (k0_off26 v925) a + S1x192.size a ≤ S1000x192.size a := fun v925 k0_hw26 => k0_hw26

def k0_off27 (v962 : BitVec 32) : Fin 2 → Nat :=
  let v975 : Index := Scalar.indexCast v962
  let c0_1025 : Index := 0#32
  ![v975.toNat, 0]

def k0_chk27 (v962 : BitVec 32) : Prop :=
  (∀ a, (k0_off27 v962) a + S1x192.size a ≤ S1000x192.size a)
theorem k0_off27_inb : ∀ (v962 : BitVec 32) (k0_hw27 : k0_chk27 v962), ∀ a, (k0_off27 v962) a + S1x192.size a ≤ S1000x192.size a := fun v962 k0_hw27 => k0_hw27

def k0_off28 (v999 : BitVec 32) : Fin 2 → Nat :=
  let v1012 : Index := Scalar.indexCast v999
  let c0_1065 : Index := 0#32
  ![v1012.toNat, 0]

def k0_chk28 (v999 : BitVec 32) : Prop :=
  (∀ a, (k0_off28 v999) a + S1x192.size a ≤ S1000x192.size a)
theorem k0_off28_inb : ∀ (v999 : BitVec 32) (k0_hw28 : k0_chk28 v999), ∀ a, (k0_off28 v999) a + S1x192.size a ≤ S1000x192.size a := fun v999 k0_hw28 => k0_hw28

def k0_off29 (v1036 : BitVec 32) : Fin 2 → Nat :=
  let v1049 : Index := Scalar.indexCast v1036
  let c0_1105 : Index := 0#32
  ![v1049.toNat, 0]

def k0_chk29 (v1036 : BitVec 32) : Prop :=
  (∀ a, (k0_off29 v1036) a + S1x192.size a ≤ S1000x192.size a)
theorem k0_off29_inb : ∀ (v1036 : BitVec 32) (k0_hw29 : k0_chk29 v1036), ∀ a, (k0_off29 v1036) a + S1x192.size a ≤ S1000x192.size a := fun v1036 k0_hw29 => k0_hw29

def k0_off30 (v1073 : BitVec 32) : Fin 2 → Nat :=
  let v1086 : Index := Scalar.indexCast v1073
  let c0_1145 : Index := 0#32
  ![v1086.toNat, 0]

def k0_chk30 (v1073 : BitVec 32) : Prop :=
  (∀ a, (k0_off30 v1073) a + S1x192.size a ≤ S1000x192.size a)
theorem k0_off30_inb : ∀ (v1073 : BitVec 32) (k0_hw30 : k0_chk30 v1073), ∀ a, (k0_off30 v1073) a + S1x192.size a ≤ S1000x192.size a := fun v1073 k0_hw30 => k0_hw30

def k0_off31 (v1110 : BitVec 32) : Fin 2 → Nat :=
  let v1123 : Index := Scalar.indexCast v1110
  let c0_1185 : Index := 0#32
  ![v1123.toNat, 0]

def k0_chk31 (v1110 : BitVec 32) : Prop :=
  (∀ a, (k0_off31 v1110) a + S1x192.size a ≤ S1000x192.size a)
theorem k0_off31_inb : ∀ (v1110 : BitVec 32) (k0_hw31 : k0_chk31 v1110), ∀ a, (k0_off31 v1110) a + S1x192.size a ≤ S1000x192.size a := fun v1110 k0_hw31 => k0_hw31

def k0_off32 (v1147 : BitVec 32) : Fin 2 → Nat :=
  let v1160 : Index := Scalar.indexCast v1147
  let c0_1225 : Index := 0#32
  ![v1160.toNat, 0]

def k0_chk32 (v1147 : BitVec 32) : Prop :=
  (∀ a, (k0_off32 v1147) a + S1x192.size a ≤ S1000x192.size a)
theorem k0_off32_inb : ∀ (v1147 : BitVec 32) (k0_hw32 : k0_chk32 v1147), ∀ a, (k0_off32 v1147) a + S1x192.size a ≤ S1000x192.size a := fun v1147 k0_hw32 => k0_hw32

def k0_off33 (v1184 : BitVec 32) : Fin 2 → Nat :=
  let v1197 : Index := Scalar.indexCast v1184
  let c0_1265 : Index := 0#32
  ![v1197.toNat, 0]

def k0_chk33 (v1184 : BitVec 32) : Prop :=
  (∀ a, (k0_off33 v1184) a + S1x192.size a ≤ S1000x192.size a)
theorem k0_off33_inb : ∀ (v1184 : BitVec 32) (k0_hw33 : k0_chk33 v1184), ∀ a, (k0_off33 v1184) a + S1x192.size a ≤ S1000x192.size a := fun v1184 k0_hw33 => k0_hw33

def k0_off34 (v1221 : BitVec 32) : Fin 2 → Nat :=
  let v1234 : Index := Scalar.indexCast v1221
  let c0_1305 : Index := 0#32
  ![v1234.toNat, 0]

def k0_chk34 (v1221 : BitVec 32) : Prop :=
  (∀ a, (k0_off34 v1221) a + S1x192.size a ≤ S1000x192.size a)
theorem k0_off34_inb : ∀ (v1221 : BitVec 32) (k0_hw34 : k0_chk34 v1221), ∀ a, (k0_off34 v1221) a + S1x192.size a ≤ S1000x192.size a := fun v1221 k0_hw34 => k0_hw34

def k0_off35 (v1258 : BitVec 32) : Fin 2 → Nat :=
  let v1271 : Index := Scalar.indexCast v1258
  let c0_1345 : Index := 0#32
  ![v1271.toNat, 0]

def k0_chk35 (v1258 : BitVec 32) : Prop :=
  (∀ a, (k0_off35 v1258) a + S1x192.size a ≤ S1000x192.size a)
theorem k0_off35_inb : ∀ (v1258 : BitVec 32) (k0_hw35 : k0_chk35 v1258), ∀ a, (k0_off35 v1258) a + S1x192.size a ≤ S1000x192.size a := fun v1258 k0_hw35 => k0_hw35

def k0_off36 (v1295 : BitVec 32) : Fin 2 → Nat :=
  let v1308 : Index := Scalar.indexCast v1295
  let c0_1385 : Index := 0#32
  ![v1308.toNat, 0]

def k0_chk36 (v1295 : BitVec 32) : Prop :=
  (∀ a, (k0_off36 v1295) a + S1x192.size a ≤ S1000x192.size a)
theorem k0_off36_inb : ∀ (v1295 : BitVec 32) (k0_hw36 : k0_chk36 v1295), ∀ a, (k0_off36 v1295) a + S1x192.size a ≤ S1000x192.size a := fun v1295 k0_hw36 => k0_hw36

def k0_off37 (v1332 : BitVec 32) : Fin 2 → Nat :=
  let v1345 : Index := Scalar.indexCast v1332
  let c0_1425 : Index := 0#32
  ![v1345.toNat, 0]

def k0_chk37 (v1332 : BitVec 32) : Prop :=
  (∀ a, (k0_off37 v1332) a + S1x192.size a ≤ S1000x192.size a)
theorem k0_off37_inb : ∀ (v1332 : BitVec 32) (k0_hw37 : k0_chk37 v1332), ∀ a, (k0_off37 v1332) a + S1x192.size a ≤ S1000x192.size a := fun v1332 k0_hw37 => k0_hw37

def k0_off38 (v1369 : BitVec 32) : Fin 2 → Nat :=
  let v1382 : Index := Scalar.indexCast v1369
  let c0_1465 : Index := 0#32
  ![v1382.toNat, 0]

def k0_chk38 (v1369 : BitVec 32) : Prop :=
  (∀ a, (k0_off38 v1369) a + S1x192.size a ≤ S1000x192.size a)
theorem k0_off38_inb : ∀ (v1369 : BitVec 32) (k0_hw38 : k0_chk38 v1369), ∀ a, (k0_off38 v1369) a + S1x192.size a ≤ S1000x192.size a := fun v1369 k0_hw38 => k0_hw38

def k0_off39 (v1406 : BitVec 32) : Fin 2 → Nat :=
  let v1419 : Index := Scalar.indexCast v1406
  let c0_1505 : Index := 0#32
  ![v1419.toNat, 0]

def k0_chk39 (v1406 : BitVec 32) : Prop :=
  (∀ a, (k0_off39 v1406) a + S1x192.size a ≤ S1000x192.size a)
theorem k0_off39_inb : ∀ (v1406 : BitVec 32) (k0_hw39 : k0_chk39 v1406), ∀ a, (k0_off39 v1406) a + S1x192.size a ≤ S1000x192.size a := fun v1406 k0_hw39 => k0_hw39

def k0_off40 (v1443 : BitVec 32) : Fin 2 → Nat :=
  let v1456 : Index := Scalar.indexCast v1443
  let c0_1545 : Index := 0#32
  ![v1456.toNat, 0]

def k0_chk40 (v1443 : BitVec 32) : Prop :=
  (∀ a, (k0_off40 v1443) a + S1x192.size a ≤ S1000x192.size a)
theorem k0_off40_inb : ∀ (v1443 : BitVec 32) (k0_hw40 : k0_chk40 v1443), ∀ a, (k0_off40 v1443) a + S1x192.size a ≤ S1000x192.size a := fun v1443 k0_hw40 => k0_hw40

def k0_off41 (v1480 : BitVec 32) : Fin 2 → Nat :=
  let v1493 : Index := Scalar.indexCast v1480
  let c0_1585 : Index := 0#32
  ![v1493.toNat, 0]

def k0_chk41 (v1480 : BitVec 32) : Prop :=
  (∀ a, (k0_off41 v1480) a + S1x192.size a ≤ S1000x192.size a)
theorem k0_off41_inb : ∀ (v1480 : BitVec 32) (k0_hw41 : k0_chk41 v1480), ∀ a, (k0_off41 v1480) a + S1x192.size a ≤ S1000x192.size a := fun v1480 k0_hw41 => k0_hw41

def k0_off42 (v1517 : BitVec 32) : Fin 2 → Nat :=
  let v1530 : Index := Scalar.indexCast v1517
  let c0_1625 : Index := 0#32
  ![v1530.toNat, 0]

def k0_chk42 (v1517 : BitVec 32) : Prop :=
  (∀ a, (k0_off42 v1517) a + S1x192.size a ≤ S1000x192.size a)
theorem k0_off42_inb : ∀ (v1517 : BitVec 32) (k0_hw42 : k0_chk42 v1517), ∀ a, (k0_off42 v1517) a + S1x192.size a ≤ S1000x192.size a := fun v1517 k0_hw42 => k0_hw42

def k0_off43 (v1554 : BitVec 32) : Fin 2 → Nat :=
  let v1567 : Index := Scalar.indexCast v1554
  let c0_1665 : Index := 0#32
  ![v1567.toNat, 0]

def k0_chk43 (v1554 : BitVec 32) : Prop :=
  (∀ a, (k0_off43 v1554) a + S1x192.size a ≤ S1000x192.size a)
theorem k0_off43_inb : ∀ (v1554 : BitVec 32) (k0_hw43 : k0_chk43 v1554), ∀ a, (k0_off43 v1554) a + S1x192.size a ≤ S1000x192.size a := fun v1554 k0_hw43 => k0_hw43

def k0_off44 (v1591 : BitVec 32) : Fin 2 → Nat :=
  let v1604 : Index := Scalar.indexCast v1591
  let c0_1705 : Index := 0#32
  ![v1604.toNat, 0]

def k0_chk44 (v1591 : BitVec 32) : Prop :=
  (∀ a, (k0_off44 v1591) a + S1x192.size a ≤ S1000x192.size a)
theorem k0_off44_inb : ∀ (v1591 : BitVec 32) (k0_hw44 : k0_chk44 v1591), ∀ a, (k0_off44 v1591) a + S1x192.size a ≤ S1000x192.size a := fun v1591 k0_hw44 => k0_hw44

def k0_off45 (v1628 : BitVec 32) : Fin 2 → Nat :=
  let v1641 : Index := Scalar.indexCast v1628
  let c0_1745 : Index := 0#32
  ![v1641.toNat, 0]

def k0_chk45 (v1628 : BitVec 32) : Prop :=
  (∀ a, (k0_off45 v1628) a + S1x192.size a ≤ S1000x192.size a)
theorem k0_off45_inb : ∀ (v1628 : BitVec 32) (k0_hw45 : k0_chk45 v1628), ∀ a, (k0_off45 v1628) a + S1x192.size a ≤ S1000x192.size a := fun v1628 k0_hw45 => k0_hw45

def k0_off46 (v1665 : BitVec 32) : Fin 2 → Nat :=
  let v1678 : Index := Scalar.indexCast v1665
  let c0_1785 : Index := 0#32
  ![v1678.toNat, 0]

def k0_chk46 (v1665 : BitVec 32) : Prop :=
  (∀ a, (k0_off46 v1665) a + S1x192.size a ≤ S1000x192.size a)
theorem k0_off46_inb : ∀ (v1665 : BitVec 32) (k0_hw46 : k0_chk46 v1665), ∀ a, (k0_off46 v1665) a + S1x192.size a ≤ S1000x192.size a := fun v1665 k0_hw46 => k0_hw46

def k0_off47 (v1702 : BitVec 32) : Fin 2 → Nat :=
  let v1715 : Index := Scalar.indexCast v1702
  let c0_1825 : Index := 0#32
  ![v1715.toNat, 0]

def k0_chk47 (v1702 : BitVec 32) : Prop :=
  (∀ a, (k0_off47 v1702) a + S1x192.size a ≤ S1000x192.size a)
theorem k0_off47_inb : ∀ (v1702 : BitVec 32) (k0_hw47 : k0_chk47 v1702), ∀ a, (k0_off47 v1702) a + S1x192.size a ≤ S1000x192.size a := fun v1702 k0_hw47 => k0_hw47

def k0_off48 (v1739 : BitVec 32) : Fin 2 → Nat :=
  let v1752 : Index := Scalar.indexCast v1739
  let c0_1865 : Index := 0#32
  ![v1752.toNat, 0]

def k0_chk48 (v1739 : BitVec 32) : Prop :=
  (∀ a, (k0_off48 v1739) a + S1x192.size a ≤ S1000x192.size a)
theorem k0_off48_inb : ∀ (v1739 : BitVec 32) (k0_hw48 : k0_chk48 v1739), ∀ a, (k0_off48 v1739) a + S1x192.size a ≤ S1000x192.size a := fun v1739 k0_hw48 => k0_hw48

def k0_off49 (v1776 : BitVec 32) : Fin 2 → Nat :=
  let v1789 : Index := Scalar.indexCast v1776
  let c0_1905 : Index := 0#32
  ![v1789.toNat, 0]

def k0_chk49 (v1776 : BitVec 32) : Prop :=
  (∀ a, (k0_off49 v1776) a + S1x192.size a ≤ S1000x192.size a)
theorem k0_off49_inb : ∀ (v1776 : BitVec 32) (k0_hw49 : k0_chk49 v1776), ∀ a, (k0_off49 v1776) a + S1x192.size a ≤ S1000x192.size a := fun v1776 k0_hw49 => k0_hw49

def k0_off50 (v1813 : BitVec 32) : Fin 2 → Nat :=
  let v1826 : Index := Scalar.indexCast v1813
  let c0_1945 : Index := 0#32
  ![v1826.toNat, 0]

def k0_chk50 (v1813 : BitVec 32) : Prop :=
  (∀ a, (k0_off50 v1813) a + S1x192.size a ≤ S1000x192.size a)
theorem k0_off50_inb : ∀ (v1813 : BitVec 32) (k0_hw50 : k0_chk50 v1813), ∀ a, (k0_off50 v1813) a + S1x192.size a ≤ S1000x192.size a := fun v1813 k0_hw50 => k0_hw50

def k0_off51 (v1850 : BitVec 32) : Fin 2 → Nat :=
  let v1863 : Index := Scalar.indexCast v1850
  let c0_1985 : Index := 0#32
  ![v1863.toNat, 0]

def k0_chk51 (v1850 : BitVec 32) : Prop :=
  (∀ a, (k0_off51 v1850) a + S1x192.size a ≤ S1000x192.size a)
theorem k0_off51_inb : ∀ (v1850 : BitVec 32) (k0_hw51 : k0_chk51 v1850), ∀ a, (k0_off51 v1850) a + S1x192.size a ≤ S1000x192.size a := fun v1850 k0_hw51 => k0_hw51

def k0_off52 (v1887 : BitVec 32) : Fin 2 → Nat :=
  let v1900 : Index := Scalar.indexCast v1887
  let c0_2025 : Index := 0#32
  ![v1900.toNat, 0]

def k0_chk52 (v1887 : BitVec 32) : Prop :=
  (∀ a, (k0_off52 v1887) a + S1x192.size a ≤ S1000x192.size a)
theorem k0_off52_inb : ∀ (v1887 : BitVec 32) (k0_hw52 : k0_chk52 v1887), ∀ a, (k0_off52 v1887) a + S1x192.size a ≤ S1000x192.size a := fun v1887 k0_hw52 => k0_hw52

def k0_off53 (v1924 : BitVec 32) : Fin 2 → Nat :=
  let v1937 : Index := Scalar.indexCast v1924
  let c0_2065 : Index := 0#32
  ![v1937.toNat, 0]

def k0_chk53 (v1924 : BitVec 32) : Prop :=
  (∀ a, (k0_off53 v1924) a + S1x192.size a ≤ S1000x192.size a)
theorem k0_off53_inb : ∀ (v1924 : BitVec 32) (k0_hw53 : k0_chk53 v1924), ∀ a, (k0_off53 v1924) a + S1x192.size a ≤ S1000x192.size a := fun v1924 k0_hw53 => k0_hw53

def k0_off54 (v1961 : BitVec 32) : Fin 2 → Nat :=
  let v1974 : Index := Scalar.indexCast v1961
  let c0_2105 : Index := 0#32
  ![v1974.toNat, 0]

def k0_chk54 (v1961 : BitVec 32) : Prop :=
  (∀ a, (k0_off54 v1961) a + S1x192.size a ≤ S1000x192.size a)
theorem k0_off54_inb : ∀ (v1961 : BitVec 32) (k0_hw54 : k0_chk54 v1961), ∀ a, (k0_off54 v1961) a + S1x192.size a ≤ S1000x192.size a := fun v1961 k0_hw54 => k0_hw54

def k0_off55 (v1998 : BitVec 32) : Fin 2 → Nat :=
  let v2011 : Index := Scalar.indexCast v1998
  let c0_2145 : Index := 0#32
  ![v2011.toNat, 0]

def k0_chk55 (v1998 : BitVec 32) : Prop :=
  (∀ a, (k0_off55 v1998) a + S1x192.size a ≤ S1000x192.size a)
theorem k0_off55_inb : ∀ (v1998 : BitVec 32) (k0_hw55 : k0_chk55 v1998), ∀ a, (k0_off55 v1998) a + S1x192.size a ≤ S1000x192.size a := fun v1998 k0_hw55 => k0_hw55

def k0_off56 (v2035 : BitVec 32) : Fin 2 → Nat :=
  let v2048 : Index := Scalar.indexCast v2035
  let c0_2185 : Index := 0#32
  ![v2048.toNat, 0]

def k0_chk56 (v2035 : BitVec 32) : Prop :=
  (∀ a, (k0_off56 v2035) a + S1x192.size a ≤ S1000x192.size a)
theorem k0_off56_inb : ∀ (v2035 : BitVec 32) (k0_hw56 : k0_chk56 v2035), ∀ a, (k0_off56 v2035) a + S1x192.size a ≤ S1000x192.size a := fun v2035 k0_hw56 => k0_hw56

def k0_off57 (v2072 : BitVec 32) : Fin 2 → Nat :=
  let v2085 : Index := Scalar.indexCast v2072
  let c0_2225 : Index := 0#32
  ![v2085.toNat, 0]

def k0_chk57 (v2072 : BitVec 32) : Prop :=
  (∀ a, (k0_off57 v2072) a + S1x192.size a ≤ S1000x192.size a)
theorem k0_off57_inb : ∀ (v2072 : BitVec 32) (k0_hw57 : k0_chk57 v2072), ∀ a, (k0_off57 v2072) a + S1x192.size a ≤ S1000x192.size a := fun v2072 k0_hw57 => k0_hw57

def k0_off58 (v2103 : BitVec 32) : Fin 2 → Nat :=
  let v2116 : Index := Scalar.indexCast v2103
  let c0_2257 : Index := 0#32
  ![v2116.toNat, 0]

def k0_chk58 (v2103 : BitVec 32) : Prop :=
  (∀ a, (k0_off58 v2103) a + S1x192.size a ≤ S1000x192.size a)
theorem k0_off58_inb : ∀ (v2103 : BitVec 32) (k0_hw58 : k0_chk58 v2103), ∀ a, (k0_off58 v2103) a + S1x192.size a ≤ S1000x192.size a := fun v2103 k0_hw58 => k0_hw58

def k0_off59 (v2134 : BitVec 32) : Fin 2 → Nat :=
  let v2147 : Index := Scalar.indexCast v2134
  let c0_2289 : Index := 0#32
  ![v2147.toNat, 0]

def k0_chk59 (v2134 : BitVec 32) : Prop :=
  (∀ a, (k0_off59 v2134) a + S1x192.size a ≤ S1000x192.size a)
theorem k0_off59_inb : ∀ (v2134 : BitVec 32) (k0_hw59 : k0_chk59 v2134), ∀ a, (k0_off59 v2134) a + S1x192.size a ≤ S1000x192.size a := fun v2134 k0_hw59 => k0_hw59

def k0_off60 (v2165 : BitVec 32) : Fin 2 → Nat :=
  let v2178 : Index := Scalar.indexCast v2165
  let c0_2321 : Index := 0#32
  ![v2178.toNat, 0]

def k0_chk60 (v2165 : BitVec 32) : Prop :=
  (∀ a, (k0_off60 v2165) a + S1x192.size a ≤ S1000x192.size a)
theorem k0_off60_inb : ∀ (v2165 : BitVec 32) (k0_hw60 : k0_chk60 v2165), ∀ a, (k0_off60 v2165) a + S1x192.size a ≤ S1000x192.size a := fun v2165 k0_hw60 => k0_hw60

def k0_off61 (v2196 : BitVec 32) : Fin 2 → Nat :=
  let v2209 : Index := Scalar.indexCast v2196
  let c0_2353 : Index := 0#32
  ![v2209.toNat, 0]

def k0_chk61 (v2196 : BitVec 32) : Prop :=
  (∀ a, (k0_off61 v2196) a + S1x192.size a ≤ S1000x192.size a)
theorem k0_off61_inb : ∀ (v2196 : BitVec 32) (k0_hw61 : k0_chk61 v2196), ∀ a, (k0_off61 v2196) a + S1x192.size a ≤ S1000x192.size a := fun v2196 k0_hw61 => k0_hw61

def k0_off62 (v2227 : BitVec 32) : Fin 2 → Nat :=
  let v2240 : Index := Scalar.indexCast v2227
  let c0_2385 : Index := 0#32
  ![v2240.toNat, 0]

def k0_chk62 (v2227 : BitVec 32) : Prop :=
  (∀ a, (k0_off62 v2227) a + S1x192.size a ≤ S1000x192.size a)
theorem k0_off62_inb : ∀ (v2227 : BitVec 32) (k0_hw62 : k0_chk62 v2227), ∀ a, (k0_off62 v2227) a + S1x192.size a ≤ S1000x192.size a := fun v2227 k0_hw62 => k0_hw62

def k0_off63 (v2258 : BitVec 32) : Fin 2 → Nat :=
  let v2271 : Index := Scalar.indexCast v2258
  let c0_2417 : Index := 0#32
  ![v2271.toNat, 0]

def k0_chk63 (v2258 : BitVec 32) : Prop :=
  (∀ a, (k0_off63 v2258) a + S1x192.size a ≤ S1000x192.size a)
theorem k0_off63_inb : ∀ (v2258 : BitVec 32) (k0_hw63 : k0_chk63 v2258), ∀ a, (k0_off63 v2258) a + S1x192.size a ≤ S1000x192.size a := fun v2258 k0_hw63 => k0_hw63

def k0_off64 (v2289 : BitVec 32) : Fin 2 → Nat :=
  let v2302 : Index := Scalar.indexCast v2289
  let c0_2449 : Index := 0#32
  ![v2302.toNat, 0]

def k0_chk64 (v2289 : BitVec 32) : Prop :=
  (∀ a, (k0_off64 v2289) a + S1x192.size a ≤ S1000x192.size a)
theorem k0_off64_inb : ∀ (v2289 : BitVec 32) (k0_hw64 : k0_chk64 v2289), ∀ a, (k0_off64 v2289) a + S1x192.size a ≤ S1000x192.size a := fun v2289 k0_hw64 => k0_hw64

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1000x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x16x192x56x56 : Shape := ⟨5, ![4, 16, 192, 56, 56]⟩
abbrev S16 : Shape := ⟨1, ![16]⟩
abbrev S1x1000x192 : Shape := ⟨3, ![1, 1000, 192]⟩
abbrev S_ : Shape := ⟨0, ![]⟩
abbrev S16x1 : Shape := ⟨2, ![16, 1]⟩
abbrev S1 : Shape := ⟨1, ![1]⟩
abbrev S1x1 : Shape := ⟨2, ![1, 1]⟩
abbrev S1x16x192 : Shape := ⟨3, ![1, 16, 192]⟩
abbrev S1x16x192x1x1 : Shape := ⟨5, ![1, 16, 192, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x16x192x56x56, .f32⟩
  | .hbm, ⟨1, _⟩ => ⟨S16, .i32⟩
  | .hbm, ⟨2, _⟩ => ⟨S1x1000x192, .f32⟩
  | .hbm, ⟨3, _⟩ => ⟨S_, .i32⟩
  | .hbm, ⟨4, _⟩ => ⟨S16, .i32⟩
  | .hbm, ⟨5, _⟩ => ⟨S16, .i1⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S16, .i32⟩
  | .hbm, ⟨10, _⟩ => ⟨S16x1, .i32⟩
  | .hbm, ⟨11, _⟩ => ⟨S1, .i32⟩
  | .hbm, ⟨12, _⟩ => ⟨S_, .i32⟩
  | .hbm, ⟨13, _⟩ => ⟨S16x1, .i32⟩
  | .hbm, ⟨14, _⟩ => ⟨S16x1, .i1⟩
  | .hbm, ⟨15, _⟩ => ⟨S1x1, .i32⟩
  | .hbm, ⟨16, _⟩ => ⟨S16x1, .i32⟩
  | .hbm, ⟨17, _⟩ => ⟨S16x1, .i1⟩
  | .hbm, ⟨18, _⟩ => ⟨S16x1, .i1⟩
  | .hbm, ⟨19, _⟩ => ⟨S_, .i1⟩
  | .hbm, ⟨20, _⟩ => ⟨S16, .i1⟩
  | .hbm, ⟨21, _⟩ => ⟨S1x16x192, .f32⟩
  | .hbm, ⟨22, _⟩ => ⟨S1x16x192, .i1⟩
  | .hbm, ⟨23, _⟩ => ⟨S_, .f32⟩
  | .hbm, ⟨24, _⟩ => ⟨S1x16x192, .f32⟩
  | .hbm, ⟨25, _⟩ => ⟨S1x16x192, .f32⟩
  | .hbm, ⟨26, _⟩ => ⟨S1x16x192x1x1, .f32⟩
  | .hbm, ⟨27, _⟩ => ⟨S4x16x192x56x56, .f32⟩
  | .hbm, ⟨28, _⟩ => ⟨S4x16x192x56x56, .f32⟩
  | _, _ => ⟨S4x16x192x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩

abbrev nD : Nat := 1
abbrev τ : Topo := Topo.v7x

variable {F : FTy → Type} [FloatOps F]
-- ==== Proof.Steps.lean ====
/-
  The kernel's body, written once as a program over a step number: eight copies in, sixty-four steps, eight waits.
  It is stated over any signature and any memrefs of the printed shapes, so that the printed body of each of the two
  programs (`Kernel`, `KernelIdeal`) is an instance.
-/
module

public import Idealize.ShloMosaic.Lib.Pipeline
public import Idealize.ShloMosaic.Lib.Scf
public import Idealize.ShloMosaic.Lib.Sig
public import Idealize.ShloMosaic.PureOps

@[expose] public section

noncomputable section

namespace Cert.PosEmb

open Idealize.ShloMosaic Idealize.SL.Sem

/-! ## The shapes -/

abbrev S16 : Shape := ⟨1, ![16]⟩
abbrev S8 : Shape := ⟨1, ![8]⟩
abbrev S1 : Shape := ⟨1, ![1]⟩
abbrev S_ : Shape := ⟨0, ![]⟩
abbrev S4x16x192x3136 : Shape := ⟨4, ![4, 16, 192, 3136]⟩
abbrev S1x1x192x3136 : Shape := ⟨4, ![1, 1, 192, 3136]⟩
abbrev S8x192x3136 : Shape := ⟨3, ![8, 192, 3136]⟩
abbrev S1x192x3136 : Shape := ⟨3, ![1, 192, 3136]⟩
abbrev S192x3136 : Shape := ⟨2, ![192, 3136]⟩
abbrev S1000x192 : Shape := ⟨2, ![1000, 192]⟩
abbrev S1x192 : Shape := ⟨2, ![1, 192]⟩
abbrev S192 : Shape := ⟨1, ![192]⟩
abbrev S192x1 : Shape := ⟨2, ![192, 1]⟩

/-! ## Where a step's accesses lie -/

/-- Block `i` of `x` lies at batch `i / 16`, frame `i % 16` (every `i`, by wrapping the batch). -/
abbrev blkOff (i : ℕ) : Fin 4 → ℕ := ![i / 16 % 4, i % 16, 0, 0]
/-- Step `i` uses slot `i % 8` of a ring buffer. -/
abbrev slotOff (i : ℕ) : Fin 3 → ℕ := ![i % 8, 0, 0]
/-- Step `i` uses semaphore `i % 8` of a ring. -/
abbrev semOff (i : ℕ) : Fin 1 → ℕ := ![i % 8]
/-- Step `i` reads word `i % 16` of the table of indices. -/
abbrev wordOff (i : ℕ) : Fin 1 → ℕ := ![i % 16]
/-- The row of the position table a word names. -/
def rowOff (v : BitVec 32) : Fin 2 → ℕ := ![(Scalar.indexCast v).toNat, 0]

theorem blkOff_inb (i : ℕ) : ∀ a, blkOff i a + S1x1x192x3136.size a ≤ S4x16x192x3136.size a := by
  intro a; fin_cases a <;> simp [blkOff] <;> omega
theorem slotOff_inb (i : ℕ) : ∀ a, slotOff i a + S1x192x3136.size a ≤ S8x192x3136.size a := by
  intro a; fin_cases a <;> simp [slotOff]; omega
theorem semOff_inb (i : ℕ) : ∀ a, semOff i a + S1.size a ≤ S8.size a := by
  intro a; fin_cases a; simp [semOff]; omega
theorem wordOff_inb (i : ℕ) : ∀ a, wordOff i a + S1.size a ≤ S16.size a := by
  intro a; fin_cases a; simp [wordOff]; omega

/-- The row a word names lies inside the table. -/
def RowInside (v : BitVec 32) : Prop := ∀ a, rowOff v a + S1x192.size a ≤ S1000x192.size a
instance RowInside.dec : ∀ v : BitVec 32, Decidable (RowInside v) := fun v => decidable_of_iff' _ (Iff.of_eq (RowInside.eq_1 v))

theorem squeezes_blk : S1x1x192x3136.Squeezes S192x3136 := by decide
theorem squeezes_slot : S1x192x3136.Squeezes S192x3136 := by decide
theorem squeezes_sem : S1.Squeezes S_ := by decide
theorem numel_word : S1.numel = 1 := by decide
theorem pos_row : 0 < S1x192.numel := by decide
theorem pos_slot : 0 < S1x192x3136.numel := by decide
theorem casts_row_row : S1x192.ShapeCasts S1x192 := by decide
theorem casts_slot_blk : S1x192x3136.ShapeCasts S192x3136 := by decide
theorem casts_row_vec : S1x192.ShapeCasts S192 := by decide
theorem casts_vec_col : S192.ShapeCasts S192x1 := by decide
theorem broadcasts_col : S192x1.Broadcasts S192x3136 := by decide
theorem casts_blk_slot : S192x3136.ShapeCasts S1x192x3136 := by decide

section Program

variable {sig : RefSig} {nD : ℕ} {τ : Topo} {Λ : Labels} {F : FTy → Type} [FloatOps F]

/-- Block `i` of an array of the shape of `x`, as a 192 × 3136 array. -/
abbrev blk (m : Memref sig .tc .hbm S4x16x192x3136 .f32) (i : ℕ) : Memref sig .tc .hbm S192x3136 .f32 :=
  (m.slice (Rect.unit (s := S4x16x192x3136) (blkOff i) S1x1x192x3136.size (blkOff_inb i)) (fun _ => rfl)).squeeze S192x3136 squeezes_blk
/-- The rectangle of slot `i % 8` of a ring buffer. -/
abbrev slotR (i : ℕ) : Rect S8x192x3136 := Rect.unit (s := S8x192x3136) (slotOff i) S1x192x3136.size (slotOff_inb i)
/-- Slot `i % 8` of a ring buffer, as a 192 × 3136 array. -/
abbrev slot (m : Memref sig .tc .vmem S8x192x3136 .f32) (i : ℕ) : Memref sig .tc .vmem S192x3136 .f32 :=
  (m.slice (slotR i) (fun _ => rfl)).squeeze S192x3136 squeezes_slot
/-- Semaphore `i % 8` of a ring. -/
abbrev sem (s : DmaSems sig S8) (i : ℕ) : DmaSem sig :=
  ((s.slice (Rect.unit (s := S8) (semOff i) S1.size (semOff_inb i))).squeeze S_ squeezes_sem).sem

/-- What step `i` stores: the block it loaded plus the row of the position table, spread along the block's rows. -/
def stored (row : Vec F S1x192 .f32) (xb : Vec F S1x192x3136 .f32) : FVec F S1x192x3136 .f32 :=
  shapeCast S1x192x3136
    (addf (shapeCast S192x3136 xb casts_slot_blk)
      (broadcastTo S192x3136 (shapeCast S192x1 (shapeCast S192 (shapeCast S1x192 row casts_row_row) casts_row_vec) casts_vec_col) broadcasts_col))
    casts_blk_slot

variable (nD τ Λ F)
variable (a0 : Memref sig .tc .smem S16 .i32) (a1 : Memref sig .tc .hbm S4x16x192x3136 .f32)
  (a2 : Memref sig .tc .vmem S1000x192 .f32) (a3 : Memref sig .tc .hbm S4x16x192x3136 .f32)
  (a4 a5 : Memref sig .tc .vmem S8x192x3136 .f32) (a6 a7 : DmaSems sig S8)

/-- Start the copy of block `i` of `x` into its slot. -/
def startIn (i : ℕ) : Prog (TpuEff nD τ sig (Elt F) Λ .tc) PUnit :=
  Prog.lift (.enqueueDma (blk a1 i) (.here (slot a4 i)) (.dma (sem a6 i)) ((View.wordExact_bits rfl).reshape _ _) ((View.wordExact_bits rfl).reshape _ _) ⟨Or.inl rfl, trivial⟩)
/-- Wait for block `i` of `x`. -/
def waitIn (i : ℕ) : Prog (TpuEff nD τ sig (Elt F) Λ .tc) PUnit :=
  Prog.lift (.waitDma2 (sem a6 i) (blk a1 i) (slot a4 i) ((View.wordExact_bits rfl).reshape _ _) ((View.wordExact_bits rfl).reshape _ _))
/-- Start the copy of block `i` of the result out of its slot. -/
def startOut (i : ℕ) : Prog (TpuEff nD τ sig (Elt F) Λ .tc) PUnit :=
  Prog.lift (.enqueueDma (slot a5 i) (.here (blk a3 i)) (.dma (sem a7 i)) ((View.wordExact_bits rfl).reshape _ _) ((View.wordExact_bits rfl).reshape _ _) ⟨Or.inl rfl, trivial⟩)
/-- Wait for block `i` of the result. -/
def waitOut (i : ℕ) : Prog (TpuEff nD τ sig (Elt F) Λ .tc) PUnit :=
  Prog.lift (.waitDma2 (sem a7 i) (slot a5 i) (blk a3 i) ((View.wordExact_bits rfl).reshape _ _) ((View.wordExact_bits rfl).reshape _ _))

/-- Before step `i` computes: wait for the copy out of eight steps ago, if there was one. -/
def waitOutBefore (i : ℕ) : Prog (TpuEff nD τ sig (Elt F) Λ .tc) PUnit :=
  if 8 ≤ i then waitOut nD τ Λ F a3 a5 a7 (i - 8) else pure ⟨⟩
/-- At the end of step `i`: start the copy in of eight steps on, if there is one. -/
def startInAfter (i : ℕ) : Prog (TpuEff nD τ sig (Elt F) Λ .tc) PUnit :=
  if i + 8 < 64 then startIn nD τ Λ F a1 a4 a6 (i + 8) else pure ⟨⟩

/-- The arithmetic of step `i`: read the row, the block and (unused) the slot written next; store the sum. -/
def compute (i : ℕ) (v : BitVec 32) (hv : RowInside v) : Prog (TpuEff nD τ sig (Elt F) Λ .tc) PUnit := do
  let row : Vec F S1x192 .f32 ← Prog.lift (.load a2 (Rect.unit (s := S1000x192) (rowOff v) S1x192.size hv).toLoadRect (View.loadsAt_vmem pos_row))
  let xb : Vec F S1x192x3136 .f32 ← Prog.lift (.load a4 (slotR i).toLoadRect (View.loadsAt_vmem pos_slot))
  let _ : Vec F S1x192x3136 .f32 ← Prog.lift (.load a5 (slotR i).toLoadRect (View.loadsAt_vmem pos_slot))
  Prog.lift (.store a5 (slotR i) (stored row xb) Finset.univ (View.stores_vmem_bits_univ pos_slot rfl) (.inl rfl))

/-- Step `i`. -/
def step (i : ℕ) : Prog (TpuEff nD τ sig (Elt F) Λ .tc) PUnit := do
  let v : Elt F .i32 ← smemLoad a0 (Rect.unit (s := S16) (wordOff i) S1.size (wordOff_inb i)) numel_word rfl
  have hv : RowInside v := (← Prog.lift (TpuEff.assume (RowInside v) (RowInside.dec v))).down
  waitIn nD τ Λ F a1 a4 a6 i
  waitOutBefore nD τ Λ F a3 a5 a7 i
  compute nD τ Λ F a2 a4 a5 i v hv
  startOut nD τ Λ F a3 a5 a7 i
  startInAfter nD τ Λ F a1 a4 a6 i

/-- A program of the step number, run at `i`, `i + 1`, …, `n` times. -/
def runs (p : ℕ → Prog (TpuEff nD τ sig (Elt F) Λ .tc) PUnit) : ℕ → ℕ → Prog (TpuEff nD τ sig (Elt F) Λ .tc) PUnit
  | 0, _ => pure ⟨⟩
  | n + 1, i => do p i; runs p n (i + 1)

/-- The body: the first eight copies in, the sixty-four steps, the last eight waits. -/
def body : Prog (TpuEff nD τ sig (Elt F) Λ .tc) PUnit := do
  runs nD τ Λ F (startIn nD τ Λ F a1 a4 a6) 8 0
  runs nD τ Λ F (step nD τ Λ F a0 a1 a2 a3 a4 a5 a6 a7) 64 0
  runs nD τ Λ F (waitOut nD τ Λ F a3 a5 a7) 8 56

end Program

end Cert.PosEmb

end
-- ==== Proof.KBody.lean ====
/-
  The printed body of `Kernel` is an instance of the body written over a step number (Steps.lean).
-/
module

public import proofs.«01_k».proof.Proof.Steps
public import proofs.«01_k».proof.Proof.Gen.Kernel.Points
public import Idealize.ShloMosaic.Lib.Tactic

@[expose] public section

noncomputable section

namespace Cert.Kernel.Hand

open Cert.Kernel Cert.Kernel.Gen Idealize.ShloMosaic Idealize.SL.Sem

variable {F : FTy → Type} [FloatOps F]

set_option maxRecDepth 1000000 in
/-- The printed body is the program over the step number. -/
theorem body_eq (arg0 : Memref sig .tc .smem S16 .i32) (harg0 : arg0.IsWhole) (arg1 : Memref sig .tc .hbm S4x16x192x3136 .f32) (harg1 : arg1.IsWhole)
    (arg2 : Memref sig .tc .vmem S1000x192 .f32) (harg2 : arg2.IsWhole) (arg3 : Memref sig .tc .hbm S4x16x192x3136 .f32) (harg3 : arg3.IsWhole)
    (arg4 : Memref sig .tc .vmem S8x192x3136 .f32) (harg4 : arg4.IsWhole) (arg5 : Memref sig .tc .vmem S8x192x3136 .f32) (harg5 : arg5.IsWhole)
    (arg6 arg7 : DmaSems sig S8) :
    cc0__body (F := F) arg0 harg0 arg1 harg1 arg2 harg2 arg3 harg3 arg4 harg4 arg5 harg5 arg6 arg7
      = PosEmb.body nD τ Λ₀ F arg0 arg1 arg2 arg3 arg4 arg5 arg6 arg7 := by
  sl_kernel_rfl

end Cert.Kernel.Hand

end
-- ==== Proof.Ring.lean ====
/-
  A ring of eight slots that sixty-four blocks pass through in order, as an assertion: how many blocks have been
  waited for (`a`), how many have been started (`b`). It says nothing of copies: what a block, a block under way
  and a free slot own is given.
-/
module

public import Idealize.ShloMosaic.Lib.Pipeline
public import Idealize.ShloMosaic.Lib.Tactic

@[expose] public section

noncomputable section

namespace Cert.PosEmb

open Idealize.SL Idealize.SL.RA Idealize.SL.BI
open scoped Idealize.SL.BI
open Idealize.SL.BI.BIBase Idealize.SL.BI.Laws Idealize.SL.ProofMode

variable {M : Type} [URA M] (pre post fl free : ℕ → sProp M)

/-- One summand apart from the others. -/
theorem apart {s : Finset ℕ} {i : ℕ} (hi : i ∈ s) (Φ : ℕ → sProp M) :
    bigSep s Φ = iprop(Φ i ∗ bigSep (s.erase i) Φ) := bigSep_erase hi

/-- What block `p` owns: before it is started, itself as it was (and its slot, if no block came before it there);
    under way, `fl p`; waited for, itself as it has become (and its slot, until the next block there is started). -/
def cell (a b p : ℕ) : sProp M :=
  if b ≤ p then iprop(pre p ∗ (if p < 8 then free p else emp))
  else if a ≤ p then fl p
  else iprop(post p ∗ (if b ≤ p + 8 then free p else emp))

/-- The sixty-four blocks, `a` waited for and `b` started. -/
def ring (a b : ℕ) : sProp M := bigSep (Finset.range 64) (cell pre post fl free a b)

/-- Waiting for the next block: the block under way comes out; put back as waited for, with its slot. -/
theorem ring_wait {a b : ℕ} (hab : a < b) (ha : a < 64) (hb : b ≤ a + 8) :
    ring pre post fl free a b ⊢ iprop(fl a ∗ ((post a ∗ free a) -∗ ring pre post fl free (a + 1) b)) := by
  have hm : a ∈ Finset.range 64 := Finset.mem_range.2 ha
  have h0 : cell pre post fl free a b a = fl a := by
    unfold cell; rw [if_neg (by omega), if_pos le_rfl]
  have h1 : cell pre post fl free (a + 1) b a = iprop(post a ∗ free a) := by
    unfold cell; rw [if_neg (by omega), if_neg (by omega), if_pos hb]
  have hr : bigSep ((Finset.range 64).erase a) (cell pre post fl free a b)
      = bigSep ((Finset.range 64).erase a) (cell pre post fl free (a + 1) b) := by
    refine bigSep_congr fun p hp => ?_
    have hne : p ≠ a := Finset.ne_of_mem_erase hp
    have hiff : (a ≤ p) = (a + 1 ≤ p) := propext (by omega)
    unfold cell; simp only [hiff]
  unfold ring
  rw [apart hm (cell pre post fl free a b), apart hm (cell pre post fl free (a + 1) b), h0, h1, hr]
  iintro ⟨H, Hr⟩
  isplitl [H]; · iexact H
  iintro H
  isplitl [H]; · iexact H
  iexact Hr

/-- Starting the next block: the block comes out as it was, with its slot; put back as under way. -/
theorem ring_start (hfree : ∀ p, free (p + 8) = free p) {a b : ℕ} (hab : a ≤ b) (hb : b < 64) (hba : b < a + 8) :
    ring pre post fl free a b ⊢ iprop(pre b ∗ free b ∗ (fl b -∗ ring pre post fl free a (b + 1))) := by
  have hm : b ∈ Finset.range 64 := Finset.mem_range.2 hb
  have h1 : cell pre post fl free a (b + 1) b = fl b := by
    unfold cell; rw [if_neg (by omega), if_pos hab]
  unfold ring
  rw [apart hm (cell pre post fl free a b), apart hm (cell pre post fl free a (b + 1)), h1]
  by_cases h8 : b < 8
  · have h0 : cell pre post fl free a b b = iprop(pre b ∗ free b) := by
      unfold cell; rw [if_pos le_rfl, if_pos h8]
    have hr : bigSep ((Finset.range 64).erase b) (cell pre post fl free a b)
        = bigSep ((Finset.range 64).erase b) (cell pre post fl free a (b + 1)) := by
      refine bigSep_congr fun p hp => ?_
      have hne : p ≠ b := Finset.ne_of_mem_erase hp
      have hiff : (b ≤ p) = (b + 1 ≤ p) := propext (by omega)
      have hiff' : (b ≤ p + 8) = (b + 1 ≤ p + 8) := propext (by omega)
      unfold cell; simp only [hiff, hiff']
    rw [h0, hr]
    iintro ⟨⟨H, Hf⟩, Hr⟩
    isplitl [H]; · iexact H
    isplitl [Hf]; · iexact Hf
    iintro H
    isplitl [H]; · iexact H
    iexact Hr
  · have h0 : cell pre post fl free a b b = iprop(pre b ∗ emp) := by
      unfold cell; rw [if_pos le_rfl, if_neg h8]
    obtain ⟨d, rfl⟩ : ∃ d, b = d + 8 := ⟨b - 8, by omega⟩
    have hd : d ∈ (Finset.range 64).erase (d + 8) := Finset.mem_erase.2 ⟨by omega, Finset.mem_range.2 (by omega)⟩
    have h2 : cell pre post fl free a (d + 8) d = iprop(post d ∗ free d) := by
      unfold cell; rw [if_neg (by omega), if_neg (by omega), if_pos le_rfl]
    have h3 : cell pre post fl free a (d + 8 + 1) d = iprop(post d ∗ emp) := by
      unfold cell; rw [if_neg (by omega), if_neg (by omega), if_neg (by omega)]
    have hr : bigSep (((Finset.range 64).erase (d + 8)).erase d) (cell pre post fl free a (d + 8))
        = bigSep (((Finset.range 64).erase (d + 8)).erase d) (cell pre post fl free a (d + 8 + 1)) := by
      refine bigSep_congr fun p hp => ?_
      have hne : p ≠ d := Finset.ne_of_mem_erase hp
      have hne' : p ≠ d + 8 := Finset.ne_of_mem_erase (Finset.mem_of_mem_erase hp)
      have hiff : (d + 8 ≤ p) = (d + 8 + 1 ≤ p) := propext (by omega)
      have hiff' : (d + 8 ≤ p + 8) = (d + 8 + 1 ≤ p + 8) := propext (by omega)
      unfold cell; simp only [hiff, hiff']
    rw [h0, apart hd (cell pre post fl free a (d + 8)), apart hd (cell pre post fl free a (d + 8 + 1)),
      h2, h3, hr, hfree]
    iintro ⟨⟨H, -⟩, ⟨Hp, Hf⟩, Hr⟩
    isplitl [H]; · iexact H
    isplitl [Hf]; · iexact Hf
    iintro H
    isplitl [H]; · iexact H
    isplitl [Hp]
    · isplitl [Hp]; · iexact Hp
      iempintro
    iexact Hr

/-- Sixty-four summands of which the ones in `[k, k + 8)` alone own something. -/
theorem bigSep_eight (k : ℕ) (hk : k + 8 ≤ 64) (P : ℕ → Prop) [DecidablePred P] (hP : ∀ p < 64, P p ↔ k ≤ p ∧ p < k + 8)
    (Φ : ℕ → sProp M) :
    bigSep (Finset.range 64) (fun p => if P p then Φ p else (iprop(emp) : sProp M)) = bigSep (Finset.range 8) (fun s => Φ (k + s)) := by
  have hs : (Finset.range 8).map (addLeftEmbedding k) ⊆ Finset.range 64 := by
    intro p hp
    obtain ⟨s, hs, rfl⟩ := Finset.mem_map.1 hp
    have := Finset.mem_range.1 hs
    exact Finset.mem_range.2 (by simp [addLeftEmbedding]; omega)
  rw [bigSep_sdiff_split hs]
  have h1 : bigSep (Finset.range 64 \ (Finset.range 8).map (addLeftEmbedding k)) (fun p => if P p then Φ p else (iprop(emp) : sProp M)) = iprop(emp) := by
    have : bigSep (Finset.range 64 \ (Finset.range 8).map (addLeftEmbedding k)) (fun p => if P p then Φ p else (iprop(emp) : sProp M))
        = bigSep (Finset.range 64 \ (Finset.range 8).map (addLeftEmbedding k)) (fun _ => (iprop(emp) : sProp M)) := by
      refine bigSep_congr fun p hp => ?_
      obtain ⟨hp1, hp2⟩ := Finset.mem_sdiff.1 hp
      rw [if_neg]
      intro hPp
      obtain ⟨h1, h2⟩ := (hP p (Finset.mem_range.1 hp1)).1 hPp
      exact hp2 (Finset.mem_map.2 ⟨p - k, Finset.mem_range.2 (by omega), by simp [addLeftEmbedding]; omega⟩)
    rw [this]
    generalize Finset.range 64 \ (Finset.range 8).map (addLeftEmbedding k) = S
    classical
    induction S using Finset.induction_on with
    | empty => rfl
    | insert i s hi ih => rw [bigSep_insert hi, ih]; exact equiv_iff.mp sep_emp
  rw [h1, show ∀ X : sProp M, BI.sep X iprop(emp) = X from fun X => equiv_iff.mp sep_emp, bigSep_map]
  refine bigSep_congr fun s hs => ?_
  have hs' := Finset.mem_range.1 hs
  rw [if_pos]
  · rfl
  · exact (hP _ (by simp [addLeftEmbedding]; omega)).2 (by simp [addLeftEmbedding]; omega)

/-- Nothing started: the blocks as they were, and the eight slots. -/
theorem ring_first : ring pre post fl free 0 0
    = iprop(bigSep (Finset.range 64) pre ∗ bigSep (Finset.range 8) free) := by
  have h : ∀ p ∈ Finset.range 64, cell pre post fl free 0 0 p = iprop(pre p ∗ (if p < 8 then free p else emp)) := by
    intro p _; unfold cell; rw [if_pos (by omega)]
  unfold ring
  rw [bigSep_congr h, bigSep_sep', bigSep_eight 0 (by omega) (fun p => p < 8) (fun p _ => by omega) free]
  simp only [Nat.zero_add]

/-- Everything waited for: the blocks as they have become, and the eight slots. -/
theorem ring_last (hfree : ∀ p, free (p + 8) = free p) : ring pre post fl free 64 64
    = iprop(bigSep (Finset.range 64) post ∗ bigSep (Finset.range 8) free) := by
  have h : ∀ p ∈ Finset.range 64, cell pre post fl free 64 64 p = iprop(post p ∗ (if 64 ≤ p + 8 then free p else emp)) := by
    intro p hp; have := Finset.mem_range.1 hp; unfold cell; rw [if_neg (by omega), if_neg (by omega)]
  unfold ring
  rw [bigSep_congr h, bigSep_sep', bigSep_eight 56 (by omega) (fun p => 64 ≤ p + 8) (fun p hp => by omega) free]
  congr 1
  refine bigSep_congr fun s _ => ?_
  have h7 : ∀ k s, free (s + 8 * k) = free s := by
    intro k; induction k with
    | zero => intro s; rfl
    | succ k ih => intro s; rw [show s + 8 * (k + 1) = (s + 8 * k) + 8 by omega, hfree, ih]
  rw [show 56 + s = s + 8 * 7 by omega, h7]

end Cert.PosEmb

end
-- ==== Proof.Body.lean ====
/-
  What each operation of a step does to what the core owns, and by induction over the steps what the body does: from
  the four operands and the two ring buffers, the result array ends at the contents `G` whose blocks are the sums.
-/
module

public import proofs.«01_k».proof.Proof.Steps
public import proofs.«01_k».proof.Proof.Ring
public import Idealize.ShloMosaic.Lib.Pipeline.FrameBody
public import Idealize.ShloMosaic.Lib.Ring
public import Idealize.ShloMosaic.Lib.Pipeline.Value

@[expose] public section

noncomputable section

namespace Cert.PosEmb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {sig : RefSig} {nD : ℕ} {τ : Topo} {Λ : Labels} {F : FTy → Type} [FloatOps F]

/-- The algebra of the proof: the pipeline library's beside the transfers' counters. -/
local notation "𝕄" => MT nD τ sig Unit (Elt F) ℕ (Pipeline.UD sig nD τ) ℕ

/-- Slots, semaphores and their offsets repeat every eight steps. -/
theorem slotOff_add (i : ℕ) : slotOff (i + 8) = slotOff i := by unfold slotOff; rw [Nat.add_mod_right]
theorem semOff_add (i : ℕ) : semOff (i + 8) = semOff i := by unfold semOff; rw [Nat.add_mod_right]
theorem slotR_add (i : ℕ) : slotR (i + 8) = slotR i := Rect.unit_congr (slotOff_add i) _ _
theorem sem_add (s : DmaSems sig S8) (i : ℕ) : sem s (i + 8) = sem s i := by
  unfold sem; rw [SemArray.slice_unit_congr s (semOff_add i)]
/-- The elements of slot `i % 8` of a ring buffer. -/
def slotSet (m : Memref sig .tc .vmem S8x192x3136 .f32) (i : ℕ) : Finset m.view.ty.Idx := (slot m i).view.set
theorem slotSet_eq (m : Memref sig .tc .vmem S8x192x3136 .f32) (i : ℕ) : slotSet m i = (slotR i).set.map m.view.emb := by
  exact (View.set_reshape (v := m.view.slice (slotR i)) squeezes_slot.numel_eq).trans (View.set_slice (v := m.view) (slotR i))
theorem slotSet_add (m : Memref sig .tc .vmem S8x192x3136 .f32) (i : ℕ) : slotSet m (i + 8) = slotSet m i := by
  rw [slotSet_eq, slotSet_eq, slotR_add]

/-- Block `i` of the result: the block of `x` plus the row spread along the block's rows. -/
def blkSum (row : Vec F S1x192 .f32) (xb : Vec F S192x3136 .f32) : FVec F S192x3136 .f32 :=
  addf xb (broadcastTo S192x3136 (shapeCast S192x1 (shapeCast S192 (shapeCast S1x192 row casts_row_row) casts_row_vec) casts_vec_col) broadcasts_col)

section Owned

variable (c : Dev nD)

/-- Block `i` of an array of the shape of `x`, held at the array's contents `f`. -/
def ownBlk (m : Memref sig .tc .hbm S4x16x192x3136 .f32) (f : Buf (Elt F) (m.view.loc (c : Thread nD τ))) (i : ℕ) : sProp 𝕄 :=
  (blk m i).view.loc (c : Thread nD τ) ↦[(blk m i).view.set]{fullShare} f

/-- Slot `i % 8` of a ring buffer, held at contents of which `P` is true. -/
def ownSlot (m : Memref sig .tc .vmem S8x192x3136 .f32) (i : ℕ) (P : Buf (Elt F) (m.view.loc (c : Thread nD τ)) → Prop) : sProp 𝕄 :=
  iprop(∃ g : Buf (Elt F) (m.view.loc (c : Thread nD τ)), ⌜P g⌝ ∗ (m.view.loc (c : Thread nD τ) ↦[slotSet m i]{fullShare} g))

/-- A free slot: its elements at some contents, its semaphore at zero. -/
def ownFree (m : Memref sig .tc .vmem S8x192x3136 .f32) (s : DmaSems sig S8) (i : ℕ) : sProp 𝕄 :=
  iprop(ownSlot (F := F) (τ := τ) c m i (fun _ => True) ∗ semVal ((c : Thread nD τ), SemLoc.dma (sem s i)) 0)

theorem ownFree_add (m : Memref sig .tc .vmem S8x192x3136 .f32) (s : DmaSems sig S8) (i : ℕ) :
    (ownFree c m s (i + 8) : sProp 𝕄) = ownFree c m s i := by
  unfold ownFree ownSlot
  rw [sem_add, slotSet_add]

theorem ownFree_split (m : Memref sig .tc .vmem S8x192x3136 .f32) (s : DmaSems sig S8) (i : ℕ) :
    (ownFree c m s i : sProp 𝕄) ⊣⊢ iprop(ownSlot c m i (fun _ => True) ∗ semVal ((c : Thread nD τ), SemLoc.dma (sem s i)) 0) := ⟨.rfl, .rfl⟩

end Owned

section Run

variable {defs : Defs nD τ sig (Elt F) Λ} (𝒱 : Variants) (c : Dev nD) (bd : Option 𝒱.V)
variable (a0 : Memref sig .tc .smem S16 .i32) (a1 : Memref sig .tc .hbm S4x16x192x3136 .f32)
  (a2 : Memref sig .tc .vmem S1000x192 .f32) (a3 : Memref sig .tc .hbm S4x16x192x3136 .f32)
  (a4 a5 : Memref sig .tc .vmem S8x192x3136 .f32) (a6 a7 : DmaSems sig S8)
variable (ft : Buf (Elt F) (a0.view.loc (c : Thread nD τ))) (fx : Buf (Elt F) (a1.view.loc (c : Thread nD τ)))
  (fp : Buf (Elt F) (a2.view.loc (c : Thread nD τ))) (fo G : Buf (Elt F) (a3.view.loc (c : Thread nD τ)))

local notation "EC" => countersEmb (nD := nD) (τ := τ) (sig := sig) (Ix := Unit) (Val := Elt F) (Name := ℕ) (U := Pipeline.UD sig nD τ) (Lvl := ℕ)

/-- The slot holds block `i` of `x`. -/
def HoldsX (i : ℕ) (g : Buf (Elt F) (a4.view.loc (c : Thread nD τ))) : Prop :=
  (slot a4 i).view.read (Elt F) g = (blk a1 i).view.read (Elt F) fx

/-- The slot holds block `i` of the result. -/
def HoldsG (i : ℕ) (g : Buf (Elt F) (a5.view.loc (c : Thread nD τ))) : Prop :=
  (slot a5 i).view.read (Elt F) g = (blk a3 i).view.read (Elt F) G

/-- Block `i` of `x` under way into its slot. -/
def flIn (i : ℕ) : sProp 𝕄 :=
  Transfers.Flight EC (c : Thread nD τ) (SemLoc.dma (sem a6 i)) () (slot a4 i).view.dmaCredit
    iprop(ownSlot c a4 i (HoldsX c a1 a4 fx i) ∗ ownBlk c a1 fx i)

/-- Block `i` of the result under way out of its slot. -/
def flOut (i : ℕ) : sProp 𝕄 :=
  Transfers.Flight EC (c : Thread nD τ) (SemLoc.dma (sem a7 i)) () (blk a3 i).view.dmaCredit
    iprop(ownBlk c a3 G i ∗ ownSlot c a5 i (fun _ => True))

/-- Starting a copy in: the block and its free slot become the copy under way. -/
theorem wp_startIn {Q : PUnit → sProp 𝕄} (i : ℕ) :
    iprop(ownBlk c a1 fx i ∗ ownFree c a4 a6 i ∗ (flIn c a1 a4 a6 fx i -∗ Q ⟨⟩))
      ⊢ wp frame (wpE defs 𝒱 (c : Thread nD τ) bd) Set.univ (startIn nD τ Λ F a1 a4 a6 i) Q := by
  unfold ownBlk ownFree ownSlot startIn Prog.lift
  iintro ⟨Hx, ⟨⟨%g, -, Hs⟩, Hv⟩, HQ⟩
  iapply (Transfers.wp_dmaLocal EC 𝒱 (c : Thread nD τ) bd (src := blk a1 i) (dst := slot a4 i) (via := .same) (sm := SemLoc.dma (sem a6 i))
    () (slot a4 i).view.dmaCredit rfl (View.dmaCredit_pos _ (by decide)) (Finset.Subset.refl _)) $$ [Hx Hs Hv]
  · isplitl [Hx]; · iexact Hx
    isplitl [Hs]; · iexact Hs
    iexact Hv
  iintro HF
  iapply le_wp_ret
  iapply HQ
  unfold flIn
  iapply (Transfers.Flight_mono EC (c : Thread nD τ) (D := iprop(((slot a4 i).view.loc (c : Thread nD τ) ↦[(slot a4 i).view.set]{fullShare}
      ((slot a4 i).view.write (Elt F) g ((blk a1 i).view.read (Elt F) fx) Finset.univ))
      ∗ ((blk a1 i).view.loc (c : Thread nD τ) ↦[(blk a1 i).view.set]{fullShare} fx)))) $$ HF
  iintro ⟨Hs, Hx⟩
  unfold ownSlot ownBlk
  isplitl [Hs]
  · iexists _
    isplitr; swap; · iexact Hs
    ipureintro
    exact View.read_write_univ _ _
  iexact Hx

/-- Waiting for a copy in: its slot holds the block, the block is back. -/
theorem wp_waitIn {Q : PUnit → sProp 𝕄} (i : ℕ) (W : Waits sig Unit) :
    iprop(flIn c a1 a4 a6 fx i ∗ owes (c : Thread nD τ) 0 W
        ∗ ((ownSlot c a4 i (HoldsX c a1 a4 fx i) ∗ ownBlk c a1 fx i ∗ semVal ((c : Thread nD τ), SemLoc.dma (sem a6 i)) 0
            ∗ ∃ W', owes (c : Thread nD τ) 0 W') -∗ Q ⟨⟩))
      ⊢ wp frame (wpE defs 𝒱 (c : Thread nD τ) bd) Set.univ (waitIn nD τ Λ F a1 a4 a6 i) Q := by
  unfold flIn waitIn Prog.lift
  iintro ⟨HF, HO, HQ⟩
  iapply (Transfers.wp_waitLocal EC 𝒱 (c : Thread nD τ) bd (srcw := blk a1 i) (dstw := slot a4 i) () rfl) $$ [HF HO]
  · isplitl [HF]; · iexact HF
    iexact HO
  iintro ⟨⟨Hs, Hx⟩, Hv, HO⟩
  iapply le_wp_ret
  iapply HQ
  isplitl [Hs]; · iexact Hs
  isplitl [Hx]; · iexact Hx
  isplitl [Hv]; · iexact Hv
  iexists _; iexact HO

/-- Starting a copy out of a slot that holds block `i` of the result. -/
theorem wp_startOut {Q : PUnit → sProp 𝕄} (i : ℕ) :
    iprop(ownBlk c a3 fo i ∗ ownSlot c a5 i (HoldsG c a3 a5 G i) ∗ semVal ((c : Thread nD τ), SemLoc.dma (sem a7 i)) 0
        ∗ (flOut c a3 a5 a7 G i -∗ Q ⟨⟩))
      ⊢ wp frame (wpE defs 𝒱 (c : Thread nD τ) bd) Set.univ (startOut nD τ Λ F a3 a5 a7 i) Q := by
  unfold ownBlk ownSlot startOut Prog.lift
  iintro ⟨Hx, ⟨%g, %hg, Hs⟩, Hv, HQ⟩
  iapply (Transfers.wp_dmaLocal EC 𝒱 (c : Thread nD τ) bd (src := slot a5 i) (dst := blk a3 i) (via := .same) (sm := SemLoc.dma (sem a7 i))
    () (blk a3 i).view.dmaCredit rfl (View.dmaCredit_pos _ (by decide)) (Finset.Subset.refl _)) $$ [Hx Hs Hv]
  · isplitl [Hs]; · iexact Hs
    isplitl [Hx]; · iexact Hx
    iexact Hv
  iintro HF
  iapply le_wp_ret
  iapply HQ
  unfold flOut
  have hw : ∀ j ∈ (blk a3 i).view.set, (blk a3 i).view.write (Elt F) fo ((slot a5 i).view.read (Elt F) g) Finset.univ j = G j := by
    intro j hj
    obtain ⟨y, -, rfl⟩ := Finset.mem_map.1 hj
    rw [View.write_emb_of_mem _ _ (Finset.mem_univ _), hg, View.read_apply, cast_cast, cast_eq]
  iapply (Transfers.Flight_mono EC (c : Thread nD τ) (D := iprop(((blk a3 i).view.loc (c : Thread nD τ) ↦[(blk a3 i).view.set]{fullShare}
      ((blk a3 i).view.write (Elt F) fo ((slot a5 i).view.read (Elt F) g) Finset.univ))
      ∗ ((slot a5 i).view.loc (c : Thread nD τ) ↦[(slot a5 i).view.set]{fullShare} g)))) $$ HF
  rw [pointsTo_congr hw]
  iintro ⟨Hx, Hs⟩
  unfold ownSlot ownBlk
  isplitl [Hx]; · iexact Hx
  iexists _
  isplitr; swap; · iexact Hs
  ipureintro
  trivial

/-- Waiting for a copy out: the block of the result is in place, the slot is free. -/
theorem wp_waitOut {Q : PUnit → sProp 𝕄} (i : ℕ) (W : Waits sig Unit) :
    iprop(flOut c a3 a5 a7 G i ∗ owes (c : Thread nD τ) 0 W
        ∗ ((ownBlk c a3 G i ∗ ownFree c a5 a7 i ∗ ∃ W', owes (c : Thread nD τ) 0 W') -∗ Q ⟨⟩))
      ⊢ wp frame (wpE defs 𝒱 (c : Thread nD τ) bd) Set.univ (waitOut nD τ Λ F a3 a5 a7 i) Q := by
  unfold flOut waitOut Prog.lift ownFree
  iintro ⟨HF, HO, HQ⟩
  iapply (Transfers.wp_waitLocal EC 𝒱 (c : Thread nD τ) bd (srcw := slot a5 i) (dstw := blk a3 i) () rfl) $$ [HF HO]
  · isplitl [HF]; · iexact HF
    iexact HO
  iintro ⟨⟨Hx, Hs⟩, Hv, HO⟩
  iapply le_wp_ret
  iapply HQ
  isplitl [Hx]; · iexact Hx
  isplitl [Hs Hv]
  · isplitl [Hs]; · iexact Hs
    iexact Hv
  iexists _; iexact HO

/-- The word step `i` reads. -/
def word (i : ℕ) : BitVec 32 :=
  (a0.access (Rect.unit (s := S16) (wordOff i) S1.size (wordOff_inb i))).read (Elt F) ft (Shape.Idx.first (numel_word.symm ▸ Nat.one_pos))

/-- The row of the position table a word names. -/
def rowOf (v : BitVec 32) (hv : RowInside v) : Vec F S1x192 .f32 :=
  (a2.access (Rect.unit (s := S1000x192) (rowOff v) S1x192.size hv)).read (Elt F) fp

/-- Block `i` of `x` plus the row the word of step `i` names is block `i` of `G`. -/
def Sums : Prop := ∀ i < 64, ∃ hv : RowInside (word c a0 ft i),
  (blk a3 i).view.read (Elt F) G = blkSum (rowOf c a2 fp _ hv) ((blk a1 i).view.read (Elt F) fx)

/-- What step `i` stores reads back, through the slot, as block `i` of the result. -/
theorem holdsG_of (i : ℕ) (v : BitVec 32) (hv : RowInside v)
    (hG : (blk a3 i).view.read (Elt F) G = blkSum (rowOf c a2 fp v hv) ((blk a1 i).view.read (Elt F) fx))
    (g : Buf (Elt F) (a4.view.loc (c : Thread nD τ))) (hg : HoldsX c a1 a4 fx i g) (g' : Buf (Elt F) (a5.view.loc (c : Thread nD τ))) :
    HoldsG c a3 a5 G i ((a5.access (slotR i)).write (Elt F) g'
      (stored (rowOf c a2 fp v hv) ((a4.access (slotR i)).read (Elt F) g)) Finset.univ) := by
  unfold HoldsG HoldsX at *
  have h4 : (slot a4 i).view.read (Elt F) g = shapeCast S192x3136 ((a4.access (slotR i)).read (Elt F) g) casts_slot_blk := rfl
  have h5 : ∀ f, (slot a5 i).view.read (Elt F) f = shapeCast S192x3136 ((a5.access (slotR i)).read (Elt F) f) casts_slot_blk := fun f => rfl
  rw [h5, View.read_write_univ, hG, ← hg, h4]
  exact shapeCast_shapeCast (blkSum _ _) casts_blk_slot casts_slot_blk

/-- The arithmetic of step `i`: with block `i` of `x` in its slot, the other ring's slot ends holding block `i` of the result. -/
theorem wp_compute {Q : PUnit → sProp 𝕄} (i : ℕ) (v : BitVec 32) (hv : RowInside v)
    (hG : (blk a3 i).view.read (Elt F) G = blkSum (rowOf c a2 fp v hv) ((blk a1 i).view.read (Elt F) fx)) :
    iprop((a2.view.loc (c : Thread nD τ) ↦{fullShare} fp) ∗ ownSlot c a4 i (HoldsX c a1 a4 fx i) ∗ ownSlot c a5 i (fun _ => True)
        ∗ (((a2.view.loc (c : Thread nD τ) ↦{fullShare} fp) ∗ ownSlot c a4 i (fun _ => True) ∗ ownSlot c a5 i (HoldsG c a3 a5 G i)) -∗ Q ⟨⟩))
      ⊢ wp frame (wpE defs 𝒱 (c : Thread nD τ) bd) Set.univ (compute nD τ Λ F a2 a4 a5 i v hv) Q := by
  unfold ownSlot compute Prog.lift
  simp only [Prog.bind_op, Prog.bind_ret]
  iintro ⟨Hp, ⟨%g, %hg, H4⟩, ⟨%g', -, H5⟩, HQ⟩
  have hs : ∀ m : Memref sig .tc .vmem S8x192x3136 .f32, (m.access (slotR i)).set ⊆ slotSet m i := fun m => by
    rw [slotSet_eq]; exact (View.set_slice (v := m.view) (slotR i)).subset
  iapply (wp_load_rect 𝒱 (c : Thread nD τ) bd Set.univ (m := a2) (r := Rect.unit (s := S1000x192) (rowOff v) S1x192.size hv)
    (Finset.subset_univ _)) $$ Hp
  iintro Hp
  iapply (wp_load_rect 𝒱 (c : Thread nD τ) bd Set.univ (m := a4) (r := slotR i) (hs a4)) $$ H4
  iintro H4
  iapply (wp_load_rect 𝒱 (c : Thread nD τ) bd Set.univ (m := a5) (r := slotR i) (hs a5)) $$ H5
  iintro H5
  iapply (wp_store 𝒱 (c : Thread nD τ) bd Set.univ (m := a5) (r := slotR i) (hs a5)) $$ H5
  iintro H5
  iapply le_wp_ret
  iapply HQ
  isplitl [Hp]; · iexact Hp
  isplitl [H4]
  · iexists g
    isplitr; swap; · iexact H4
    ipureintro; trivial
  iexists _
  isplitr; swap; · iexact H5
  ipureintro
  exact holdsG_of c a1 a2 a3 a4 a5 fx fp G i v hv hG g hg g'

/-- The ring of copies in: `a` blocks of `x` waited for, `b` started. -/
def ringIn (a b : ℕ) : sProp 𝕄 :=
  ring (ownBlk c a1 fx) (ownBlk c a1 fx) (flIn c a1 a4 a6 fx) (ownFree c a4 a6) a b
/-- The ring of copies out: `a` blocks of the result waited for, `b` started. -/
def ringOut (a b : ℕ) : sProp 𝕄 :=
  ring (ownBlk c a3 fo) (ownBlk c a3 G) (flOut c a3 a5 a7 G) (ownFree c a5 a7) a b

/-- What the core owes: nothing, whatever it has waited for. -/
def idle : sProp 𝕄 := iprop(∃ W : Waits sig Unit, owes (c : Thread nD τ) 0 W)

/-- Before a step, the copy out of eight steps ago, if there was one, is waited for. -/
theorem wp_waitOut_before {Q : PUnit → sProp 𝕄} (i : ℕ) (hi : i < 64) :
    iprop(ringOut c a3 a5 a7 fo G (i - 8) i ∗ idle c ∗ ((ringOut c a3 a5 a7 fo G (i + 1 - 8) i ∗ idle c) -∗ Q ⟨⟩))
      ⊢ wp frame (wpE defs 𝒱 (c : Thread nD τ) bd) Set.univ (waitOutBefore nD τ Λ F a3 a5 a7 i) Q := by
  unfold waitOutBefore
  by_cases h : 8 ≤ i
  · rw [if_pos h, show i + 1 - 8 = i - 8 + 1 by omega]
    unfold ringOut idle
    iintro ⟨HR, ⟨%W, HO⟩, HQ⟩
    ihave HR := (ring_wait (ownBlk c a3 fo) (ownBlk c a3 G) (flOut c a3 a5 a7 G) (ownFree c a5 a7)
      (a := i - 8) (b := i) (by omega) (by omega) (by omega)) $$ HR
    icases HR with ⟨HF, HR⟩
    iapply (wp_waitOut 𝒱 c bd a3 a5 a7 G (i - 8) W)
    isplitl [HF]; · iexact HF
    isplitl [HO]; · iexact HO
    iintro ⟨Hb, Hf, HO⟩
    iapply HQ
    isplitl [HR Hb Hf]
    · iapply HR
      isplitl [Hb]; · iexact Hb
      iexact Hf
    iexact HO
  · rw [if_neg h, show i + 1 - 8 = i - 8 by omega]
    iintro ⟨HR, HO, HQ⟩
    iapply le_wp_ret
    iapply HQ
    isplitl [HR]; · iexact HR
    iexact HO

/-- Starting the copy in of block `b`, the next one, when its slot is free. -/
theorem wp_startIn_next {Q : PUnit → sProp 𝕄} (a b : ℕ) (hab : a ≤ b) (hb : b < 64) (hba : b < a + 8) :
    iprop(ringIn c a1 a4 a6 fx a b ∗ (ringIn c a1 a4 a6 fx a (b + 1) -∗ Q ⟨⟩))
      ⊢ wp frame (wpE defs 𝒱 (c : Thread nD τ) bd) Set.univ (startIn nD τ Λ F a1 a4 a6 b) Q := by
  unfold ringIn
  iintro ⟨HR, HQ⟩
  ihave HR := (ring_start (ownBlk c a1 fx) (ownBlk c a1 fx) (flIn c a1 a4 a6 fx) (ownFree c a4 a6) (ownFree_add c a4 a6) hab hb hba) $$ HR
  icases HR with ⟨Hb, Hf, HR⟩
  iapply (wp_startIn 𝒱 c bd a1 a4 a6 fx b)
  isplitl [Hb]; · iexact Hb
  isplitl [Hf]; · iexact Hf
  iintro HF
  iapply HQ
  iapply HR
  iexact HF

/-- After a step, the copy in of eight steps on, if there is one, is started. -/
theorem wp_startIn_after {Q : PUnit → sProp 𝕄} (i : ℕ) (hi : i < 64) :
    iprop(ringIn c a1 a4 a6 fx (i + 1) (min (i + 8) 64) ∗ (ringIn c a1 a4 a6 fx (i + 1) (min (i + 1 + 8) 64) -∗ Q ⟨⟩))
      ⊢ wp frame (wpE defs 𝒱 (c : Thread nD τ) bd) Set.univ (startInAfter nD τ Λ F a1 a4 a6 i) Q := by
  unfold startInAfter
  by_cases h : i + 8 < 64
  · rw [if_pos h, show min (i + 8) 64 = i + 8 by omega, show min (i + 1 + 8) 64 = i + 8 + 1 by omega]
    exact wp_startIn_next 𝒱 c bd a1 a4 a6 fx (i + 1) (i + 8) (by omega) h (by omega)
  · rw [if_neg h, show min (i + 8) 64 = 64 by omega, show min (i + 1 + 8) 64 = 64 by omega]
    iintro ⟨HR, HQ⟩
    iapply le_wp_ret
    iapply HQ
    iexact HR

/-- What the core owns before step `i`. -/
def St (i : ℕ) : sProp 𝕄 :=
  iprop((a0.view.loc (c : Thread nD τ) ↦{fullShare} ft) ∗ (a2.view.loc (c : Thread nD τ) ↦{fullShare} fp)
    ∗ ringIn c a1 a4 a6 fx i (min (i + 8) 64) ∗ ringOut c a3 a5 a7 fo G (i - 8) i ∗ idle c)

/-- One step. -/
theorem wp_step (hS : Sums c a0 a1 a2 a3 ft fx fp G) (i : ℕ) (hi : i < 64) :
    St c a0 a1 a2 a3 a4 a5 a6 a7 ft fx fp fo G i
      ⊢ wp frame (wpE defs 𝒱 (c : Thread nD τ) bd) Set.univ (step nD τ Λ F a0 a1 a2 a3 a4 a5 a6 a7 i)
          (fun _ => St c a0 a1 a2 a3 a4 a5 a6 a7 ft fx fp fo G (i + 1)) := by
  obtain ⟨hv, hG⟩ := hS i hi
  unfold St step smemLoad
  rw [wp_bind]
  iintro ⟨H0, H2, HI, HO, HW⟩
  iapply (wp_smemLoadElt 𝒱 (c : Thread nD τ) bd Set.univ (m := a0) (r := Rect.unit (s := S16) (wordOff i) S1.size (wordOff_inb i))
    (Finset.subset_univ _)) $$ H0
  iintro H0
  iapply le_wp_ret
  rw [wp_bind]
  iapply (wp_assume 𝒱 (c : Thread nD τ) bd Set.univ hv)
  iapply le_wp_ret
  rw [wp_bind]
  unfold ringIn
  ihave HI := (ring_wait (ownBlk c a1 fx) (ownBlk c a1 fx) (flIn c a1 a4 a6 fx) (ownFree c a4 a6)
    (a := i) (b := min (i + 8) 64) (by omega) (by omega) (by omega)) $$ HI
  icases HI with ⟨HF, HI⟩
  unfold idle
  icases HW with ⟨%W, HW⟩
  iapply (wp_waitIn 𝒱 c bd a1 a4 a6 fx i W)
  isplitl [HF]; · iexact HF
  isplitl [HW]; · iexact HW
  iintro ⟨H4, Hx, Hv4, HW⟩
  rw [wp_bind]
  iapply (wp_waitOut_before 𝒱 c bd a3 a5 a7 fo G i hi)
  isplitl [HO]; · iexact HO
  isplitl [HW]; · unfold idle; iexact HW
  iintro ⟨HO, HW⟩
  unfold ringOut
  ihave HO := (ring_start (ownBlk c a3 fo) (ownBlk c a3 G) (flOut c a3 a5 a7 G) (ownFree c a5 a7) (ownFree_add c a5 a7)
    (a := i + 1 - 8) (b := i) (by omega) (by omega) (by omega)) $$ HO
  icases HO with ⟨Ho, Hf, HO⟩
  ihave Hf := (ownFree_split c a5 a7 i).1 $$ Hf
  icases Hf with ⟨H5, Hv5⟩
  rw [wp_bind]
  iapply (wp_compute 𝒱 c bd a1 a2 a3 a4 a5 fx fp G i _ hv hG)
  isplitl [H2]; · iexact H2
  isplitl [H4]; · iexact H4
  isplitl [H5]; · iexact H5
  iintro ⟨H2, H4, H5⟩
  rw [wp_bind]
  iapply (wp_startOut 𝒱 c bd a3 a5 a7 fo G i)
  isplitl [Ho]; · iexact Ho
  isplitl [H5]; · iexact H5
  isplitl [Hv5]; · iexact Hv5
  iintro HF
  iapply (wp_startIn_after 𝒱 c bd a1 a4 a6 fx i hi)
  unfold ringIn
  isplitl [HI Hx H4 Hv4]
  · iapply HI
    isplitl [Hx]; · iexact Hx
    iapply (ownFree_split c a4 a6 i).2
    isplitl [H4]; · iexact H4
    iexact Hv4
  iintro HI
  isplitl [H0]; · iexact H0
  isplitl [H2]; · iexact H2
  isplitl [HI]; · iexact HI
  isplitl [HO HF]
  · iapply HO
    iexact HF
  unfold idle
  iexact HW

/-- A program that takes `T i` to `T (i + 1)` for `i` in `[lo, hi)`, run `n` times from `i`. -/
theorem wp_runs (T : ℕ → sProp 𝕄) (p : ℕ → Prog (TpuEff nD τ sig (Elt F) Λ .tc) PUnit) (lo hi : ℕ)
    (hp : ∀ i, lo ≤ i → i < hi → T i ⊢ wp frame (wpE defs 𝒱 (c : Thread nD τ) bd) Set.univ (p i) (fun _ => T (i + 1))) :
    ∀ (n i : ℕ), lo ≤ i → i + n ≤ hi →
      T i ⊢ wp frame (wpE defs 𝒱 (c : Thread nD τ) bd) Set.univ (runs nD τ Λ F p n i) (fun _ => T (i + n))
  | 0, i, _, _ => le_wp_ret (Q := fun _ => T i) _ _ _ _
  | n + 1, i, hl, h => by
      show _ ⊢ wp frame (wpE defs 𝒱 (c : Thread nD τ) bd) Set.univ (p i >>= fun _ => runs nD τ Λ F p n (i + 1)) _
      rw [wp_bind]
      refine (hp i hl (by omega)).trans (wp_mono _ _ _ fun _ => ?_)
      have := wp_runs T p lo hi hp n (i + 1) (by omega) (by omega)
      rwa [show i + 1 + n = i + (n + 1) by omega] at this

end Run

end Cert.PosEmb

end
-- ==== Proof.Whole.lean ====
/-
  The body over whole buffers: an array of the shape of `x` is its sixty-four blocks, a ring buffer its eight slots;
  so the body, from the four operands and the two ring buffers held whole, ends with the result array held whole at `G`.
-/
module

public import proofs.«01_k».proof.Proof.Body

@[expose] public section

noncomputable section

namespace Cert.PosEmb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {sig : RefSig} {nD : ℕ} {τ : Topo} {Λ : Labels} {F : FTy → Type} [FloatOps F]

local notation "𝕄" => MT nD τ sig Unit (Elt F) ℕ (Pipeline.UD sig nD τ) ℕ

/-! ## An array is its blocks, a ring buffer its slots -/

/-- The elements of block `i`. -/
def blkSet (m : Memref sig .tc .hbm S4x16x192x3136 .f32) (i : ℕ) : Finset m.view.ty.Idx := (blk m i).view.set
theorem blkSet_eq (m : Memref sig .tc .hbm S4x16x192x3136 .f32) (i : ℕ) :
    blkSet m i = (Rect.unit (s := S4x16x192x3136) (blkOff i) S1x1x192x3136.size (blkOff_inb i)).set.map m.view.emb :=
  (View.set_reshape (v := m.view.slice (Rect.unit (s := S4x16x192x3136) (blkOff i) S1x1x192x3136.size (blkOff_inb i))) squeezes_blk.numel_eq).trans
    (View.set_slice (v := m.view) _)

/-- An element is in block `i` when its batch and frame are the block's. -/
theorem mem_blk (i : ℕ) (y : S4x16x192x3136.Idx) :
    y ∈ (Rect.unit (s := S4x16x192x3136) (blkOff i) S1x1x192x3136.size (blkOff_inb i)).set ↔ (y 0).val = i / 16 % 4 ∧ (y 1).val = i % 16 := by
  have h2 : (y 2).val < 192 := (y 2).isLt
  have h3 : (y 3).val < 3136 := (y 3).isLt
  rw [Rect.mem_set_unit]
  constructor
  · intro h
    have h0 := h 0; have h1 := h 1
    simp [blkOff] at h0 h1
    omega
  · intro h a
    fin_cases a <;> simp [blkOff] <;> omega

/-- An element is in slot `i % 8` when its first coordinate is. -/
theorem mem_slot (i : ℕ) (y : S8x192x3136.Idx) : y ∈ (slotR i).set ↔ (y 0).val = i % 8 := by
  have h1 : (y 1).val < 192 := (y 1).isLt
  have h2 : (y 2).val < 3136 := (y 2).isLt
  rw [Rect.mem_set_unit]
  constructor
  · intro h
    have h0 := h 0
    simp [slotOff] at h0
    omega
  · intro h a
    fin_cases a <;> simp [slotOff] <;> omega

theorem blkSet_disjoint (m : Memref sig .tc .hbm S4x16x192x3136 .f32) :
    ∀ i ∈ Finset.range 64, ∀ j ∈ Finset.range 64, i ≠ j → Disjoint (blkSet m i) (blkSet m j) := by
  intro i hi j hj hij
  rw [blkSet_eq, blkSet_eq, Finset.disjoint_map, Finset.disjoint_left]
  intro y hy hy'
  have h1 := (mem_blk i y).1 hy
  have h2 := (mem_blk j y).1 hy'
  have := Finset.mem_range.1 hi
  have := Finset.mem_range.1 hj
  omega

theorem slotSet_disjoint (m : Memref sig .tc .vmem S8x192x3136 .f32) :
    ∀ i ∈ Finset.range 8, ∀ j ∈ Finset.range 8, i ≠ j → Disjoint (slotSet m i) (slotSet m j) := by
  intro i hi j hj hij
  rw [slotSet_eq, slotSet_eq, Finset.disjoint_map, Finset.disjoint_left]
  intro y hy hy'
  have h1 := (mem_slot i y).1 hy
  have h2 := (mem_slot j y).1 hy'
  have := Finset.mem_range.1 hi
  have := Finset.mem_range.1 hj
  omega

theorem blkSet_cover {m : Memref sig .tc .hbm S4x16x192x3136 .f32} (hm : m.IsWhole) :
    (Finset.range 64).biUnion (blkSet m) = Finset.univ := by
  refine Finset.eq_univ_of_forall fun j => ?_
  obtain ⟨y, -, rfl⟩ := Finset.mem_map.1 (show j ∈ m.view.set by rw [hm.set_eq_univ]; exact Finset.mem_univ j)
  have h0 : (y 0).val < 4 := (y 0).isLt
  have h1 : (y 1).val < 16 := (y 1).isLt
  refine Finset.mem_biUnion.2 ⟨(y 0).val * 16 + (y 1).val, Finset.mem_range.2 (by omega), ?_⟩
  rw [blkSet_eq]
  exact Finset.mem_map_of_mem _ ((mem_blk _ y).2 (by omega))

theorem slotSet_cover {m : Memref sig .tc .vmem S8x192x3136 .f32} (hm : m.IsWhole) :
    (Finset.range 8).biUnion (slotSet m) = Finset.univ := by
  refine Finset.eq_univ_of_forall fun j => ?_
  obtain ⟨y, -, rfl⟩ := Finset.mem_map.1 (show j ∈ m.view.set by rw [hm.set_eq_univ]; exact Finset.mem_univ j)
  have h0 : (y 0).val < 8 := (y 0).isLt
  refine Finset.mem_biUnion.2 ⟨(y 0).val, Finset.mem_range.2 (by omega), ?_⟩
  rw [slotSet_eq]
  exact Finset.mem_map_of_mem _ ((mem_slot _ y).2 (by omega))

section Whole

variable (c : Dev nD)

/-- An array held whole is its sixty-four blocks. -/
theorem whole_blocks {m : Memref sig .tc .hbm S4x16x192x3136 .f32} (hm : m.IsWhole) (f : Buf (Elt F) (m.view.loc (c : Thread nD τ))) :
    (m.view.loc (c : Thread nD τ) ↦{fullShare} f : sProp 𝕄) = bigSep (Finset.range 64) (ownBlk c m f) := by
  have h := pointsTo_biUnion (ℓ := m.view.loc (c : Thread nD τ)) (q := fullShare) (f := f) (Ix := Unit) (Name := ℕ) (U := Pipeline.UD sig nD τ) (Lvl := ℕ)
    (Finset.range 64) (blkSet m) (blkSet_disjoint m)
  rw [blkSet_cover hm] at h
  exact h

/-- A ring buffer held whole gives its eight slots. -/
theorem whole_slots {m : Memref sig .tc .vmem S8x192x3136 .f32} (hm : m.IsWhole) :
    (iprop(∃ f : Buf (Elt F) (m.view.loc (c : Thread nD τ)), m.view.loc (c : Thread nD τ) ↦{fullShare} f) : sProp 𝕄)
      ⊢ bigSep (Finset.range 8) (fun i => ownSlot c m i (fun _ => True)) := by
  iintro ⟨%f, H⟩
  have h := pointsTo_biUnion (ℓ := m.view.loc (c : Thread nD τ)) (q := fullShare) (f := f) (Ix := Unit) (Name := ℕ) (U := Pipeline.UD sig nD τ) (Lvl := ℕ)
    (Finset.range 8) (slotSet m) (slotSet_disjoint m)
  rw [slotSet_cover hm] at h
  have h' : (m.view.loc (c : Thread nD τ) ↦{fullShare} f : sProp 𝕄) ⊢ bigSep (Finset.range 8) (fun i => ownSlot c m i (fun _ => True)) := by
    rw [h]
    refine bigSep_mono fun i _ => (show (m.view.loc (c : Thread nD τ) ↦[slotSet m i]{fullShare} f : sProp 𝕄) ⊢ ownSlot c m i (fun _ => True) from ?_)
    unfold ownSlot
    iintro H
    iexists f
    isplitr; · ipureintro; trivial
    iexact H
  iapply h' $$ H

/-- The eight slots give the ring buffer whole, at some contents. -/
theorem slots_whole {m : Memref sig .tc .vmem S8x192x3136 .f32} (hm : m.IsWhole) (f₀ : Buf (Elt F) (m.view.loc (c : Thread nD τ))) :
    bigSep (Finset.range 8) (fun i => ownSlot c m i (fun _ => True))
      ⊢ (iprop(∃ f : Buf (Elt F) (m.view.loc (c : Thread nD τ)), m.view.loc (c : Thread nD τ) ↦{fullShare} f) : sProp 𝕄) := by
  have : Nonempty (Buf (Elt F) (m.view.loc (c : Thread nD τ))) := ⟨f₀⟩
  have h0 : bigSep (Finset.range 8) (fun i => ownSlot c m i (fun _ => True))
      ⊢ (bigSep (Finset.range 8) (fun i => iprop(∃ f : Buf (Elt F) (m.view.loc (c : Thread nD τ)), m.view.loc (c : Thread nD τ) ↦[slotSet m i]{fullShare} f)) : sProp 𝕄) := by
    refine bigSep_mono fun i _ => (show (ownSlot c m i (fun _ => True) : sProp 𝕄)
      ⊢ iprop(∃ f : Buf (Elt F) (m.view.loc (c : Thread nD τ)), m.view.loc (c : Thread nD τ) ↦[slotSet m i]{fullShare} f) from ?_)
    unfold ownSlot
    iintro ⟨%f, -, H⟩
    iexists f
    iexact H
  refine h0.trans ((bigSep_exists_pi (Finset.range 8) (fun i (f : Buf (Elt F) (m.view.loc (c : Thread nD τ))) =>
    (m.view.loc (c : Thread nD τ) ↦[slotSet m i]{fullShare} f : sProp 𝕄))).trans ?_)
  iintro ⟨%fs, H⟩
  ihave H := (pointsTo_biUnion_join (Finset.range 8) (slotSet m) fs f₀ (slotSet_disjoint m)) $$ H
  rw [slotSet_cover hm]
  icases H with ⟨%g, -, H⟩
  iexists g
  iexact H

end Whole

section Run

variable {defs : Defs nD τ sig (Elt F) Λ} (𝒱 : Variants) (c : Dev nD) (bd : Option 𝒱.V)
variable (a0 : Memref sig .tc .smem S16 .i32) (a1 : Memref sig .tc .hbm S4x16x192x3136 .f32)
  (a2 : Memref sig .tc .vmem S1000x192 .f32) (a3 : Memref sig .tc .hbm S4x16x192x3136 .f32)
  (a4 a5 : Memref sig .tc .vmem S8x192x3136 .f32) (a6 a7 : DmaSems sig S8)
variable (ft : Buf (Elt F) (a0.view.loc (c : Thread nD τ))) (fx : Buf (Elt F) (a1.view.loc (c : Thread nD τ)))
  (fp : Buf (Elt F) (a2.view.loc (c : Thread nD τ))) (fo G : Buf (Elt F) (a3.view.loc (c : Thread nD τ)))

/-- What the core owns with `a` blocks of `x` waited for, `b` started, and likewise `a'`, `b'` blocks of the result. -/
def Mid (a b a' b' : ℕ) : sProp 𝕄 :=
  iprop((a0.view.loc (c : Thread nD τ) ↦{fullShare} ft) ∗ (a2.view.loc (c : Thread nD τ) ↦{fullShare} fp)
    ∗ ringIn c a1 a4 a6 fx a b ∗ ringOut c a3 a5 a7 fo G a' b' ∗ idle c)

/-- The body, on the two rings. -/
theorem wp_body_rings (hS : Sums c a0 a1 a2 a3 ft fx fp G) :
    Mid c a0 a1 a2 a3 a4 a5 a6 a7 ft fx fp fo G 0 0 0 0
      ⊢ wp frame (wpE defs 𝒱 (c : Thread nD τ) bd) Set.univ (body nD τ Λ F a0 a1 a2 a3 a4 a5 a6 a7)
          (fun _ => Mid c a0 a1 a2 a3 a4 a5 a6 a7 ft fx fp fo G 64 64 64 64) := by
  have h1 : ∀ i, 0 ≤ i → i < 8 → Mid c a0 a1 a2 a3 a4 a5 a6 a7 ft fx fp fo G 0 i 0 0
      ⊢ wp frame (wpE defs 𝒱 (c : Thread nD τ) bd) Set.univ (startIn nD τ Λ F a1 a4 a6 i)
          (fun _ => Mid c a0 a1 a2 a3 a4 a5 a6 a7 ft fx fp fo G 0 (i + 1) 0 0) := by
    intro i _ hi
    unfold Mid
    iintro ⟨H0, H2, HI, HO, HW⟩
    iapply (wp_startIn_next 𝒱 c bd a1 a4 a6 fx 0 i (by omega) (by omega) (by omega))
    isplitl [HI]; · iexact HI
    iintro HI
    isplitl [H0]; · iexact H0
    isplitl [H2]; · iexact H2
    isplitl [HI]; · iexact HI
    isplitl [HO]; · iexact HO
    iexact HW
  have h3 : ∀ i, 56 ≤ i → i < 64 → Mid c a0 a1 a2 a3 a4 a5 a6 a7 ft fx fp fo G 64 64 i 64
      ⊢ wp frame (wpE defs 𝒱 (c : Thread nD τ) bd) Set.univ (waitOut nD τ Λ F a3 a5 a7 i)
          (fun _ => Mid c a0 a1 a2 a3 a4 a5 a6 a7 ft fx fp fo G 64 64 (i + 1) 64) := by
    intro i h56 hi
    unfold Mid ringOut idle
    iintro ⟨H0, H2, HI, HO, ⟨%W, HW⟩⟩
    ihave HO := (ring_wait (ownBlk c a3 fo) (ownBlk c a3 G) (flOut c a3 a5 a7 G) (ownFree c a5 a7)
      (a := i) (b := 64) (by omega) (by omega) (by omega)) $$ HO
    icases HO with ⟨HF, HO⟩
    iapply (wp_waitOut 𝒱 c bd a3 a5 a7 G i W)
    isplitl [HF]; · iexact HF
    isplitl [HW]; · iexact HW
    iintro ⟨Hb, Hf, HW⟩
    isplitl [H0]; · iexact H0
    isplitl [H2]; · iexact H2
    isplitl [HI]; · iexact HI
    isplitl [HO Hb Hf]
    · iapply HO
      isplitl [Hb]; · iexact Hb
      iexact Hf
    iexact HW
  have r1 := wp_runs (Λ := Λ) 𝒱 c bd (fun i => Mid c a0 a1 a2 a3 a4 a5 a6 a7 ft fx fp fo G 0 i 0 0) (startIn nD τ Λ F a1 a4 a6) 0 8 h1
    8 0 (by omega) (by omega)
  have r2 := wp_runs (Λ := Λ) 𝒱 c bd (fun i => St c a0 a1 a2 a3 a4 a5 a6 a7 ft fx fp fo G i) (step nD τ Λ F a0 a1 a2 a3 a4 a5 a6 a7) 0 64
    (fun i _ hi => wp_step (defs := defs) 𝒱 c bd a0 a1 a2 a3 a4 a5 a6 a7 ft fx fp fo G hS i hi) 64 0 (by omega) (by omega)
  have r3 := wp_runs (Λ := Λ) 𝒱 c bd (fun i => Mid c a0 a1 a2 a3 a4 a5 a6 a7 ft fx fp fo G 64 64 i 64) (waitOut nD τ Λ F a3 a5 a7) 56 64 h3
    8 56 (by omega) (by omega)
  have e1 : Mid c a0 a1 a2 a3 a4 a5 a6 a7 ft fx fp fo G 0 (0 + 8) 0 0 = St c a0 a1 a2 a3 a4 a5 a6 a7 ft fx fp fo G 0 := by
    unfold Mid St
    rw [show min (0 + 8) 64 = 0 + 8 by omega, show 0 - 8 = 0 by omega]
  have e2 : St c a0 a1 a2 a3 a4 a5 a6 a7 ft fx fp fo G (0 + 64) = Mid c a0 a1 a2 a3 a4 a5 a6 a7 ft fx fp fo G 64 64 56 64 := by
    unfold Mid St
    rw [show min (0 + 64 + 8) 64 = 64 by omega, show 0 + 64 - 8 = 56 by omega, show 0 + 64 = 64 by omega]
  beta_reduce at r1 r2 r3
  rw [e1] at r1
  rw [e2] at r2
  rw [show 56 + 8 = 64 by omega] at r3
  unfold body
  generalize runs nD τ Λ F (startIn nD τ Λ F a1 a4 a6) 8 0 = P1 at r1 ⊢
  generalize runs nD τ Λ F (step nD τ Λ F a0 a1 a2 a3 a4 a5 a6 a7) 64 0 = P2 at r2 ⊢
  generalize runs nD τ Λ F (waitOut nD τ Λ F a3 a5 a7) 8 56 = P3 at r3 ⊢
  rw [wp_bind]
  refine r1.trans (wp_mono _ _ _ fun _ => ?_)
  rw [wp_bind]
  refine r2.trans (wp_mono _ _ _ fun _ => ?_)
  exact r3

/-- The eight slots of a ring buffer and its eight semaphores are the eight free slots. -/
theorem free_split (m : Memref sig .tc .vmem S8x192x3136 .f32) (s : DmaSems sig S8) :
    (bigSep (Finset.range 8) (ownFree c m s) : sProp 𝕄)
      = iprop(bigSep (Finset.range 8) (fun i => ownSlot c m i (fun _ => True))
          ∗ bigSep (Finset.range 8) (fun i => semVal ((c : Thread nD τ), SemLoc.dma (sem s i)) 0)) :=
  bigSep_sep' _ _ _

/-- The body, on whole buffers: the result array ends at `G`, the operands as they were, every semaphore at zero. -/
theorem wp_body (hS : Sums c a0 a1 a2 a3 ft fx fp G) (h1 : a1.IsWhole) (h3 : a3.IsWhole) (h4 : a4.IsWhole) (h5 : a5.IsWhole)
    (K : PUnit → sProp 𝕄) :
    iprop((a0.view.loc (c : Thread nD τ) ↦{fullShare} ft) ∗ (a1.view.loc (c : Thread nD τ) ↦{fullShare} fx)
        ∗ (a2.view.loc (c : Thread nD τ) ↦{fullShare} fp) ∗ (a3.view.loc (c : Thread nD τ) ↦{fullShare} fo)
        ∗ (∃ f : Buf (Elt F) (a4.view.loc (c : Thread nD τ)), a4.view.loc (c : Thread nD τ) ↦{fullShare} f)
        ∗ (∃ f : Buf (Elt F) (a5.view.loc (c : Thread nD τ)), a5.view.loc (c : Thread nD τ) ↦{fullShare} f)
        ∗ bigSep (Finset.range 8) (fun i => semVal ((c : Thread nD τ), SemLoc.dma (sem a6 i)) 0)
        ∗ bigSep (Finset.range 8) (fun i => semVal ((c : Thread nD τ), SemLoc.dma (sem a7 i)) 0)
        ∗ idle c
        ∗ (((a0.view.loc (c : Thread nD τ) ↦{fullShare} ft) ∗ (a1.view.loc (c : Thread nD τ) ↦{fullShare} fx)
            ∗ (a2.view.loc (c : Thread nD τ) ↦{fullShare} fp) ∗ (a3.view.loc (c : Thread nD τ) ↦{fullShare} G)
            ∗ (∃ f : Buf (Elt F) (a4.view.loc (c : Thread nD τ)), a4.view.loc (c : Thread nD τ) ↦{fullShare} f)
            ∗ (∃ f : Buf (Elt F) (a5.view.loc (c : Thread nD τ)), a5.view.loc (c : Thread nD τ) ↦{fullShare} f)
            ∗ bigSep (Finset.range 8) (fun i => semVal ((c : Thread nD τ), SemLoc.dma (sem a6 i)) 0)
            ∗ bigSep (Finset.range 8) (fun i => semVal ((c : Thread nD τ), SemLoc.dma (sem a7 i)) 0)
            ∗ idle c) -∗ K ⟨⟩))
      ⊢ wp frame (wpE defs 𝒱 (c : Thread nD τ) bd) Set.univ (body nD τ Λ F a0 a1 a2 a3 a4 a5 a6 a7) K := by
  rw [whole_blocks c h1 fx, whole_blocks c h3 fo, whole_blocks c h3 G]
  iintro ⟨H0, H1, H2, H3, ⟨%f4, H4⟩, ⟨%f5, H5⟩, H6, H7, HW, HK⟩
  ihave Hs4 := (whole_slots (F := F) c h4) $$ [H4]
  · iexists f4; iexact H4
  ihave Hs5 := (whole_slots (F := F) c h5) $$ [H5]
  · iexists f5; iexact H5
  ihave Hbody := (wp_body_rings (defs := defs) 𝒱 c bd a0 a1 a2 a3 a4 a5 a6 a7 ft fx fp fo G hS) $$ [H0 H1 H2 H3 Hs4 Hs5 H6 H7 HW]
  · unfold Mid ringIn ringOut
    rw [ring_first, ring_first, free_split, free_split]
    isplitl [H0]; · iexact H0
    isplitl [H2]; · iexact H2
    isplitl [H1 Hs4 H6]
    · isplitl [H1]; · iexact H1
      isplitl [Hs4]; · iexact Hs4
      iexact H6
    isplitl [H3 Hs5 H7]
    · isplitl [H3]; · iexact H3
      isplitl [Hs5]; · iexact Hs5
      iexact H7
    iexact HW
  iapply (wp_wand _ _ _) $$ Hbody
  iintro %u HM
  unfold Mid ringIn ringOut
  rw [ring_last _ _ _ _ (ownFree_add c a4 a6), ring_last _ _ _ _ (ownFree_add c a5 a7), free_split, free_split]
  icases HM with ⟨H0, H2, ⟨H1, Hs4, H6⟩, ⟨H3, Hs5, H7⟩, HW⟩
  iapply HK
  isplitl [H0]; · iexact H0
  isplitl [H1]; · iexact H1
  isplitl [H2]; · iexact H2
  isplitl [H3]; · iexact H3
  isplitl [Hs4]
  · iapply (slots_whole c h4 f4) $$ Hs4
  isplitl [Hs5]
  · iapply (slots_whole c h5 f5) $$ Hs5
  isplitl [H6]; · iexact H6
  isplitl [H7]; · iexact H7
  iexact HW

end Run

end Cert.PosEmb

end
-- ==== Proof.Sum.lean ====
/-
  The array the kernel leaves: every element of `x` plus the element of the position table's row that the frame's word
  names. Its blocks are what the steps store.
-/
module

public import proofs.«01_k».proof.Proof.Whole
public import Idealize.ShloMosaic.Lib.ValueLayout
public import Idealize.ShloMosaic.Lib.Pipeline.ValueKit.Geometry

@[expose] public section

noncomputable section

namespace Cert.PosEmb

open Idealize.ShloMosaic Idealize.ShloMosaic.TcCoe
open Idealize.ShloMosaic.ValueIdx

variable {sig : RefSig} {nD : ℕ} {τ : Topo} {F : FTy → Type} [FloatOps F]

/-- The row of the table a word names (every word, by wrapping). -/
def rowNo (v : BitVec 32) : Fin 1000 := ⟨v.toNat % 1000, Nat.mod_lt _ (by decide)⟩

/-- The word of frame `b`. -/
abbrev frameIx (b : Fin 16) : S16.Idx := ix1 b
/-- Entry `d` of row `r` of the table. -/
abbrev tableIx (r : Fin 1000) (d : Fin 192) : S1000x192.Idx := ix2 r d

/-- The result, flat in its last two axes: `x[a, b, d, n] + pe[t[b], d]`. -/
def sumArr (x : FVec F S4x16x192x3136 .f32) (t : S16.Idx → BitVec 32) (pe : FVec F S1000x192 .f32) : FVec F S4x16x192x3136 .f32 :=
  fun y => FloatOps.addf (x y) (pe (tableIx (rowNo (t (frameIx (y 1)))) (y 2)))

/-- A word below 1000 names a row inside the table. -/
theorem rowInside_of_lt {v : BitVec 32} (h : v.toNat < 1000) : RowInside v := by
  intro a; fin_cases a <;> simp [rowOff, Scalar.indexCast]; omega

/-- A row of the table spread along a block's rows, at one element: the row's entry of the element's own row. -/
theorem spread_apply (row : FVec F S1x192 .f32) (d : Fin 192) (n : Fin 3136) :
    broadcastTo S192x3136 (shapeCast S192x1 (shapeCast S192 (shapeCast S1x192 row casts_row_row) casts_row_vec) casts_vec_col) broadcasts_col (ix2 d n)
      = row (ix2 (0 : Fin 1) d) := by
  rw [broadcastTo_apply (k := (ix2 d (0 : Fin 1) : S192x1.Idx))]
  · rw [shapeCast_apply (k := (ix1 d : S192.Idx))]
    · rw [shapeCast_1a_a_apply, shapeCast_self]
    · rw [Shape.rowMajor_val_two, Shape.rowMajor_val_one]; simp
  · intro a; fin_cases a <;> simp

/-- Where an element of block `i` lies in the whole array. -/
def elemIx (i : ℕ) (d : Fin 192) (n : Fin 3136) : S4x16x192x3136.Idx :=
  ix4 ⟨i / 16 % 4, Nat.mod_lt _ (by decide)⟩ ⟨i % 16, Nat.mod_lt _ (by decide)⟩ d n

/-- Block `i` of an array, read at one element. -/
theorem blk_read (m : Memref sig .tc .hbm S4x16x192x3136 .f32) (i : ℕ) (f : m.view.ty.Contents (Elt F)) (d : Fin 192) (n : Fin 3136) :
    (blk m i).view.read (Elt F) f (ix2 d n) = m.view.read (Elt F) f (elemIx i d n) := by
  refine (congrFun (Memref.read_squeeze_slice m (Rect.unit (s := S4x16x192x3136) (blkOff i) S1x1x192x3136.size (blkOff_inb i)) (fun _ => rfl)
    squeezes_blk squeezes_blk.numel_eq f) (ix2 d n)).trans ?_
  rw [shapeCast_apply (k := (ix4 (0 : Fin 1) (0 : Fin 1) d n : S1x1x192x3136.Idx))]
  · rw [View.readAt_apply]
    congr 1
    funext a; fin_cases a <;> apply Fin.ext <;> simp [elemIx, ValueKit.rect_emb_unit_val]
  · rw [Shape.rowMajor_val_four, Shape.rowMajor_val_two]; simp

variable (c : Dev nD) (a0 : Memref sig .tc .smem S16 .i32) (a1 : Memref sig .tc .hbm S4x16x192x3136 .f32)
  (a2 : Memref sig .tc .vmem S1000x192 .f32) (a3 : Memref sig .tc .hbm S4x16x192x3136 .f32)
  (ft : Buf (Elt F) (a0.view.loc (c : Thread nD τ))) (fx : Buf (Elt F) (a1.view.loc (c : Thread nD τ)))
  (fp : Buf (Elt F) (a2.view.loc (c : Thread nD τ))) (G : Buf (Elt F) (a3.view.loc (c : Thread nD τ)))

/-- The word step `i` reads is the frame's. -/
theorem word_eq (i : ℕ) : word c a0 ft i = a0.view.read (Elt F) ft (ix1 ⟨i % 16, Nat.mod_lt _ (by decide)⟩) := by
  unfold word
  show a0.view.read (Elt F) ft ((Rect.unit (s := S16) (wordOff i) S1.size (wordOff_inb i)).emb _) = _
  congr 1
  funext a; fin_cases a; apply Fin.ext
  refine (ValueKit.rect_emb_unit_val _ _ _ _ _).trans ?_
  exact congrArg (i % 16 + ·) (Nat.lt_one_iff.mp (Fin.isLt _))

/-- The row a word names, read at one element. -/
theorem rowOf_apply (v : BitVec 32) (hv : RowInside v) (hlt : v.toNat < 1000) (d : Fin 192) :
    rowOf c a2 fp v hv (ix2 (0 : Fin 1) d) = a2.view.read (Elt F) fp (tableIx (rowNo v) d) := by
  unfold rowOf
  show a2.view.read (Elt F) fp ((Rect.unit (s := S1000x192) (rowOff v) S1x192.size hv).emb _) = _
  congr 1
  funext a; apply Fin.ext
  refine (ValueKit.rect_emb_unit_val _ _ _ _ _).trans ?_
  fin_cases a <;> simp [rowOff, rowNo, Scalar.indexCast, Nat.mod_eq_of_lt hlt]

/-- An array that reads as the sums has the sums' blocks, when every word names a row of the table. -/
theorem sums_of (ht : ∀ j, (a0.view.read (Elt F) ft j).toNat < 1000)
    (hG : a3.view.read (Elt F) G = sumArr (a1.view.read (Elt F) fx) (a0.view.read (Elt F) ft) (a2.view.read (Elt F) fp)) :
    Sums c a0 a1 a2 a3 ft fx fp G := by
  intro i hi
  have hlt : (word c a0 ft i).toNat < 1000 := by rw [word_eq]; exact ht _
  refine ⟨rowInside_of_lt hlt, funext fun y => ?_⟩
  obtain ⟨d, n, rfl⟩ : ∃ (d : Fin 192) (n : Fin 3136), y = ix2 d n := ⟨y 0, y 1, eq_ix2 y⟩
  rw [blk_read, hG]
  show _ = FloatOps.addf _ (broadcastTo S192x3136 _ _ _)
  rw [blk_read, spread_apply, rowOf_apply (hlt := hlt), word_eq]
  rfl

end Cert.PosEmb

end
-- ==== Proof.Flat.lean ====
/-
  The result in its own shape: the host's reshapes around the call keep every element's place, so that element
  `(a, b, d, h, w)` of the result is `x[a, b, d, h, w] + pe[0, t[b], d]`.
-/
module

public import proofs.«01_k».proof.Proof.Sum

@[expose] public section

noncomputable section

namespace Cert.PosEmb

open Idealize.ShloMosaic Idealize.ShloMosaic.TcCoe
open Idealize.ShloMosaic.ValueIdx

variable {F : FTy → Type} [FloatOps F]

abbrev S4x16x192x56x56 : Shape := ⟨5, ![4, 16, 192, 56, 56]⟩
abbrev S1x1000x192 : Shape := ⟨3, ![1, 1000, 192]⟩

/-- The position embedding added: `x[a, b, d, h, w] + pe[0, t[b], d]`. -/
def embed (x : FVec F S4x16x192x56x56 .f32) (t : S16.Idx → BitVec 32) (pe : FVec F S1x1000x192 .f32) : FVec F S4x16x192x56x56 .f32 :=
  fun y => FloatOps.addf (x y) (pe (ix3 (0 : Fin 1) (rowNo (t (frameIx (y 1)))) (y 2)))

/-- The sums over the flattened operands, put back into shape, are the position embedding added. -/
theorem flat_sums (x : FVec F S4x16x192x56x56 .f32) (t : S16.Idx → BitVec 32) (pe : FVec F S1x1000x192 .f32)
    (h1 : S4x16x192x56x56.ShapeCasts S4x16x192x3136) (h2 : S1x1000x192.ShapeCasts S1000x192) (h3 : S4x16x192x3136.ShapeCasts S4x16x192x56x56) :
    shapeCast S4x16x192x56x56 (sumArr (shapeCast S4x16x192x3136 x h1) t (shapeCast S1000x192 pe h2)) h3 = embed x t pe := by
  funext y
  obtain ⟨a, b, d, h, w, rfl⟩ : ∃ (a : Fin 4) (b : Fin 16) (d : Fin 192) (h : Fin 56) (w : Fin 56), y = ix5 a b d h w := ⟨y 0, y 1, y 2, y 3, y 4, eq_ix5 y⟩
  have hn : h.val * 56 + w.val < 3136 := by have := h.isLt; have := w.isLt; omega
  have hk : (S4x16x192x3136.rowMajor (ix4 a b d ⟨h.val * 56 + w.val, hn⟩ : S4x16x192x3136.Idx)).val = (S4x16x192x56x56.rowMajor (ix5 a b d h w)).val := by
    rw [Shape.rowMajor_val_four, Shape.rowMajor_val_five]
    show ((a.val * 16 + b.val) * 192 + d.val) * 3136 + (h.val * 56 + w.val) = (((a.val * 16 + b.val) * 192 + d.val) * 56 + h.val) * 56 + w.val
    omega
  refine (shapeCast_apply _ _ _ _ hk).trans ?_
  unfold sumArr embed
  congr 1
  · exact shapeCast_apply _ _ _ _ hk.symm
  · refine shapeCast_apply _ _ _ _ ?_
    rw [Shape.rowMajor_val_three, Shape.rowMajor_val_two]; simp

end Cert.PosEmb

end
-- ==== Proof.KIBody.lean ====
/-
  The printed body of `KernelIdeal` is an instance of the body written over a step number (Steps.lean).
-/
module

public import proofs.«01_k».proof.Proof.Steps
public import proofs.«01_k».proof.Proof.Gen.KernelIdeal.Points
public import Idealize.ShloMosaic.Lib.Tactic

@[expose] public section

noncomputable section

namespace Cert.KernelIdeal.Hand

open Cert.KernelIdeal Cert.KernelIdeal.Gen Idealize.ShloMosaic Idealize.SL.Sem

variable {F : FTy → Type} [FloatOps F]

set_option maxRecDepth 1000000 in
/-- The printed body is the program over the step number. -/
theorem body_eq (arg0 : Memref sig .tc .smem S16 .i32) (harg0 : arg0.IsWhole) (arg1 : Memref sig .tc .hbm S4x16x192x3136 .f32) (harg1 : arg1.IsWhole)
    (arg2 : Memref sig .tc .vmem S1000x192 .f32) (harg2 : arg2.IsWhole) (arg3 : Memref sig .tc .hbm S4x16x192x3136 .f32) (harg3 : arg3.IsWhole)
    (arg4 : Memref sig .tc .vmem S8x192x3136 .f32) (harg4 : arg4.IsWhole) (arg5 : Memref sig .tc .vmem S8x192x3136 .f32) (harg5 : arg5.IsWhole)
    (arg6 arg7 : DmaSems sig S8) :
    cc0__body (F := F) arg0 harg0 arg1 harg1 arg2 harg2 arg3 harg3 arg4 harg4 arg5 harg5 arg6 arg7
      = PosEmb.body nD τ Λ₀ F arg0 arg1 arg2 arg3 arg4 arg5 arg6 arg7 := by
  sl_kernel_rfl

end Cert.KernelIdeal.Hand

end
-- ==== Proof.KIRun.lean ====
/-
  The launch: from memories whose words name rows of the table the program runs to the end, every semaphore at zero,
  and every buffer holds what the host lines make of the call's result.
-/
module

public import proofs.«01_k».proof.Proof.KIBody
public import proofs.«01_k».proof.Proof.Flat
public import proofs.«01_k».proof.Proof.Gen.KernelIdeal.Frame
public import Idealize.ShloMosaic.Lib.Pipeline.FrameSuffixV
public import Idealize.ShloMosaic.Lib.Pipeline.BigSepL
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The two rings' semaphores, and the two arrays the copies reach -/

/-- The cells of the two rings. -/
abbrev osem0 : Fin 16 → SemLoc sig := fun j =>
  (![SemLoc.dma 2, SemLoc.dma 3, SemLoc.dma 4, SemLoc.dma 5, SemLoc.dma 6, SemLoc.dma 7, SemLoc.dma 8, SemLoc.dma 9,
    SemLoc.dma 10, SemLoc.dma 11, SemLoc.dma 12, SemLoc.dma 13, SemLoc.dma 14, SemLoc.dma 15, SemLoc.dma 16, SemLoc.dma 17] : Fin 16 → SemLoc sig) j
theorem ownSemFacts0 : Pipeline.OwnSemFacts spec0 osem0 := by decide

/-- The cells at zero, ring by ring. -/
theorem ownSems0_rings (c : Dev nD) :
    (Pipeline.ownSems0 (Ix := Unit) (Name := ℕ) (U := Pipeline.UD sig nD τ) (Lvl := ℕ) (Val := Elt F) (τ := τ) osem0 c : sProp 𝕄)
      = iprop(bigSep (Finset.range 8) (fun i => semVal ((c : Thread nD τ), SemLoc.dma (PosEmb.sem cc0_scratch2 i)) 0)
          ∗ bigSep (Finset.range 8) (fun i => semVal ((c : Thread nD τ), SemLoc.dma (PosEmb.sem cc0_scratch3 i)) 0)) := by
  rw [Pipeline.ownSems0_eq_of_list c osem0 ([0, 1, 2, 3, 4, 5, 6, 7] ++ [8, 9, 10, 11, 12, 13, 14, 15]) (by decide) (by decide), bigSepL_append,
    bigSep_eq_bigSepL_of_eq [0, 1, 2, 3, 4, 5, 6, 7] (by decide) (by decide), bigSep_eq_bigSepL_of_eq [0, 1, 2, 3, 4, 5, 6, 7] (by decide) (by decide)]
  rfl

/-- The array the copies in read. -/
def H0 : Finset (Ref sig .tc) := {main_v0}
/-- The array the copies out write. -/
def R0 : Finset (Ref sig .tc) := {main_v2}
theorem H0_sub : H0 ⊆ Pipeline.restRefs sig spec0 := by decide
theorem R0_sub : R0 ⊆ Pipeline.restRefs sig spec0 \ H0 := by decide

/-! ## What the region finds and leaves -/

/-- What the call's result holds at the end: the sums. -/
def sums (c : Dev nD) : Buf (Elt F) ((c : Thread nD τ).loc main_v2) :=
  PosEmb.sumArr (V m c main_v0) (V m c main_arg1) (V m c main_v1)
/-- The buffers as the region leaves them. -/
def G (c : Dev nD) (b : Ref sig .tc) : Buf (Elt F) ((c : Thread nD τ).loc b) :=
  if h : main_v2 = b then h ▸ sums m c else V m c b

theorem G_v2 (c : Dev nD) : G m c main_v2 = sums m c := by unfold G; rw [dif_pos rfl]

/-- The invariant before (`f` the result's contents as found) and after (`f` the sums). -/
def inv (c : Dev nD) (f : Buf (Elt F) ((c : Thread nD τ).loc main_v2)) : sProp 𝕄 :=
  iprop(((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f))
      ∗ (bigSep (Finset.range 8) (fun i => semVal ((c : Thread nD τ), SemLoc.dma (PosEmb.sem cc0_scratch2 i)) 0)
        ∗ bigSep (Finset.range 8) (fun i => semVal ((c : Thread nD τ), SemLoc.dma (PosEmb.sem cc0_scratch3 i)) 0))
      ∗ (((c : Thread nD τ).loc main_v0) ↦{fullShare} V m c main_v0)
      ∗ (((c : Thread nD τ).loc main_v2) ↦{fullShare} f))

theorem inv_eq (c : Dev nD) (g : (c : Dev nD) → (b : Ref sig .tc) → Buf (Elt F) ((c : Thread nD τ).loc b)) :
    (Pipeline.ΦDRV osem0 spec0 H0 R0 (V m) g c : sProp 𝕄) = inv m c (g c main_v2) := by
  unfold Pipeline.ΦDRV inv H0 R0
  rw [scopedRest0_eq, ownSems0_rings, bigSep_singleton, bigSep_singleton]

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := inv m c (if t = 0 then V m c main_v2 else sums m c)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-- Window 0's block is the whole array of words, -/
theorem iblk0 (c : Dev nD) (t : Fin cfg0.N) : iblk m c 0 t = V m c main_arg1 := by
  funext y
  unfold iblk
  rw [View.read_apply, cast_eq]
  refine congrArg (V m c main_arg1) ?_
  funext a; apply Fin.ext
  rw [fin_N0 t]
  blk_simp
  exact (congrArg (· + (y a).val) (Nat.zero_mul _)).trans (Nat.zero_add _)
/-- and window 1's the whole table. -/
theorem iblk1 (c : Dev nD) (t : Fin cfg0.N) : iblk m c 1 t = V m c main_v1 := by
  funext y
  unfold iblk
  rw [View.read_apply, cast_eq]
  refine congrArg (V m c main_v1) ?_
  funext a; apply Fin.ext
  rw [fin_N0 t]
  blk_simp
  exact (congrArg (· + (y a).val) (Nat.zero_mul _)).trans (Nat.zero_add _)

/-! ## The body at the one point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem Phi_first (c : Dev nD) (t : Fin cfg0.N) : (dats m 0 c).Φ t.castSucc = inv m c (V m c main_v2) := by
  rw [fin_N0 t]; rfl
theorem Phi_last (c : Dev nD) (t : Fin cfg0.N) : (dats m 0 c).Φ t.succ = inv m c (sums m c) := by
  rw [fin_N0 t]; rfl

/-- The words of `t_idx` name rows of the table. -/
def InRange : Prop := ∀ (c : Dev nD) (j : PosEmb.S16.Idx), (V m c main_arg1 j).toNat < 1000

theorem sound_body (hR : InRange m) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_first, Phi_last, after0_0, after0_1, body_eq]
  unfold Dat.owesAt Pipeline.owesWithin
  rw [show (dats m 0 c).owed t.castSucc = 0 from rfl, show (dats m 0 c).owed t.succ = 0 from rfl]
  unfold inv owns
  rw [(stage_whole0 0 _).set_eq_univ, (stage_whole0 1 _).set_eq_univ]
  iintro ⟨⟨⟨Hs0, Hs1⟩, ⟨Hq0, Hq1⟩, Hx, Ho⟩, ⟨%W, -, HW⟩, ⟨%d0, %f0, %h0, H0⟩, ⟨%d1, %f1, %h1, H1⟩⟩
  rw [before0_0] at h0
  rw [before0_1] at h1
  have hS : PosEmb.Sums c (st0_0 t) (Memref.whole main_v0) (st0_1 t) (Memref.whole main_v2) f0 (V m c main_v0) f1 (sums m c) := by
    refine PosEmb.sums_of c _ _ _ _ _ _ _ _ ?_ ?_
    · rw [h0, iblk0]; exact hR c
    · rw [h0, h1, iblk0, iblk1]; rfl
  iapply (PosEmb.wp_body Variants.none c none _ _ _ _ _ _ _ _ _ _ _ (V m c main_v2) _ hS (Memref.isWhole_whole _) (Memref.isWhole_whole _)
    (Memref.isWhole_whole _) (Memref.isWhole_whole _) _)
  isplitl [H0]; · iexact H0
  isplitl [Hx]; · iexact Hx
  isplitl [H1]; · iexact H1
  isplitl [Ho]; · iexact Ho
  isplitl [Hs0]; · iexact Hs0
  isplitl [Hs1]; · iexact Hs1
  isplitl [Hq0]; · iexact Hq0
  isplitl [Hq1]; · iexact Hq1
  isplitl [HW]; · unfold PosEmb.idle; iexists W; iexact HW
  iintro ⟨H0, Hx, H1, Ho, Hs0, Hs1, Hq0, Hq1, HW⟩
  isplitl [Hs0 Hs1 Hq0 Hq1 Hx Ho]
  · isplitl [Hs0 Hs1]
    · isplitl [Hs0]; · iexact Hs0
      iexact Hs1
    isplitl [Hq0 Hq1]
    · isplitl [Hq0]; · iexact Hq0
      iexact Hq1
    isplitl [Hx]; · iexact Hx
    iexact Ho
  isplitl [HW]
  · unfold PosEmb.idle
    icases HW with ⟨%W', HW'⟩
    iexists W'; isplitr; · ipureintro; exact fun _ _ => Or.inl trivial
    iexact HW'
  isplitl [H0]
  · iexists f0; isplitr; · ipureintro; exact h0
    iexact H0
  iexists f1; isplitr; · ipureintro; exact h1
  iexact H1

theorem defs₀_row (t : Fin cfg0.N) :
    defs₀ (F := F) .tc cfg0.body (cfg0.bodyArgs t (cfg0.slots t)) = bodyAt0 t := by
  unfold defs₀; rw [Defs.onTc_tc]

theorem body_obligation (hR : InRange m) (c : Dev nD) : BodyObligation (dats (F := F) m 0 c) (defs₀ (F := F)) Variants.none () Set.univ := fun t => by
  rw [bigSep_W0, bigSep_W0, defs₀_row]
  exact triple_restated (sound_body m hR c t) rfl .rfl fun _ => .rfl

set_option maxHeartbeats 800000 in
/-- The host lines around the region. -/
theorem hmain : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-! ## The run -/

/-- The buffers at the end: the lines after the region, over what the region leaves. -/
def final (c : Dev nD) : Valuation τ sig (Elt F) :=
  StableHlo.after (List.flatten [hostOps1])
    (Pipeline.withArrays spec0 c (Pipeline.withR (V0 m c) R0 c (G m c)) fun w => (dats m 0 c).arrAt w cfg0.N)

set_option backward.isDefEq.respectTransparency.types false in
theorem run_main (hR : InRange m) : θ_run defs (onTc (τ := τ) (main (F := F))) (s₀ m ρ) (fun r =>
    (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b) = final m c (Proc.devRef .tc b))
    ∧ r.2.sem = fun _ => 0) :=
  Pipeline.θ_run_frame_dmaR_aroundV cfgs (dats m) (0 : Fin 1) launch0 osem0 defs₀ Variants.none ownSemFacts0 H0 R0 H0_sub R0_sub m ρ main
    (hbody := fun c => (body_obligation m hR c).loose) (hshare := fun c => (dats m 0 c).share_full fun _ => rfl)
    (howed := fun _ _ => rfl) (V₀ := V0 m) (opss := [hostOps1]) sfx_sub sfx_fresh sfx_keeps (G := G m) (hmain := hmain m) (hA := A_eq m)
    (hin := fun c => by rw [inv_eq]; exact .rfl) (hout := fun c => by rw [inv_eq, G_v2]; exact .rfl)
    (Q' := _) (hQ' := fun r h => h)

/-- The first argument ends as launched, -/
theorem final_arg0 (c : Dev nD) : final m c (Proc.devRef .tc main_arg0) = m ((c : Thread nD τ).loc main_arg0) := by
  unfold final
  simp only [List.flatten_cons, List.flatten_nil, List.append_nil, StableHlo.after_cons, StableHlo.after_nil]
  rw [StableHlo.reshape_result_ne _ _ _ _ _ _ _ (by decide), Pipeline.withArrays_of_ne _ _ _ _ main_arg0 (by exact (by decide : ∀ w, Pipeline.arrRef spec0 w ≠ main_arg0)),
    Pipeline.withR_of_not_mem _ _ _ _ main_arg0 (by decide)]
  exact V_main_arg0 m c
/-- and the table, -/
theorem final_arg2 (c : Dev nD) : final m c (Proc.devRef .tc main_arg2) = m ((c : Thread nD τ).loc main_arg2) := by
  unfold final
  simp only [List.flatten_cons, List.flatten_nil, List.append_nil, StableHlo.after_cons, StableHlo.after_nil]
  rw [StableHlo.reshape_result_ne _ _ _ _ _ _ _ (by decide), Pipeline.withArrays_of_ne _ _ _ _ main_arg2 (by exact (by decide : ∀ w, Pipeline.arrRef spec0 w ≠ main_arg2)),
    Pipeline.withR_of_not_mem _ _ _ _ main_arg2 (by decide)]
  exact V_main_arg2 m c
/-- and the result is the position embedding added. -/
theorem final_v3 (c : Dev nD) : final m c (Proc.devRef .tc main_v3)
    = PosEmb.embed (m ((c : Thread nD τ).loc main_arg0)) (m ((c : Thread nD τ).loc main_arg1)) (m ((c : Thread nD τ).loc main_arg2)) := by
  unfold final
  simp only [List.flatten_cons, List.flatten_nil, List.append_nil, StableHlo.after_cons, StableHlo.after_nil]
  rw [StableHlo.reshape_result', Pipeline.withArrays_of_ne _ _ _ _ main_v2 (by exact (by decide : ∀ w, Pipeline.arrRef spec0 w ≠ main_v2)),
    Pipeline.withR_of_mem _ _ _ _ main_v2 (by decide), G_v2]
  unfold sums
  rw [V_main_arg1]
  refine Eq.trans ?_ (PosEmb.flat_sums _ _ _ shapeCasts_S4x16x192x56x56_S4x16x192x3136 shapeCasts_S1x1000x192_S1000x192 shapeCasts_S4x16x192x3136_S4x16x192x56x56)
  rfl

/-- The run, from words that name rows of the table: the result, the arguments as launched, every semaphore at zero. -/
theorem run (hR : ∀ (c : Dev nD) (j : PosEmb.S16.Idx), (m ((c : Thread nD τ).loc main_arg1) j : BitVec 32).toNat < 1000) :
    θ_run defs (onTc (τ := τ) (main (F := F))) ⟨m, fun _ => 0, ρ⟩ (fun r => (∀ c : Dev nD,
      r.2.mem ((c : Thread nD τ).loc main_v3)
        = PosEmb.embed (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun r ⟨h, hz⟩ => ⟨fun c =>
      ⟨((h c).2 main_v3 (Pipeline.mem_restRefs_of main_v3 (by decide) (by decide))).trans (final_v3 m c),
        ((h c).2 main_arg0 (Pipeline.mem_restRefs_of main_arg0 (by decide) (by decide))).trans (final_arg0 m c),
        ((h c).1 0).trans (((dats m 0 c).arrAt_in 0 rfl _).trans ((A_eq m c 0).trans (V_main_arg1 m c))),
        ((h c).2 main_arg2 (Pipeline.mem_restRefs_of main_arg2 (by decide) (by decide))).trans (final_arg2 m c)⟩, hz⟩)
    (run_main m ρ fun c j => by rw [V_main_arg1]; exact hR c j)

end Cert.KernelIdeal.Hand

end
-- ==== Proof.Ref.lean ====
/-
  The reference read at its own indices. `jnp.take` prints as a gather of rows between two guards: a negative row
  number is wrapped around the table first, and a row outside the table is replaced by NaN after. From row numbers
  that lie in the table both guards do nothing, and the reference's result is the position embedding added
  (Flat.lean's `embed`). The precondition says exactly that the row numbers lie in the table.
-/
module

public import proofs.«01_k».proof.Proof.Flat
public import proofs.«01_k».proof.Proof.Gen.ReferenceIdeal.Run
public import proofs.«01_k».proof.Proof.Gen.Pre_t_idx_in_range
public import Idealize.ShloMosaic.Lib.ReduceAll

@[expose] public section

noncomputable section

namespace Cert.ReferenceIdeal.Hand

open Cert.ReferenceIdeal Cert.ReferenceIdeal.Gen
open Idealize.ShloMosaic Idealize.ShloMosaic.TcCoe Idealize.SL.Sem
open Idealize.ShloMosaic.ValueIdx

variable {F : FTy → Type} [FloatOps F]

/-- The precondition, decoded: every word of `t` is below 1000. -/
theorem inRange_of_pre (x : FVec F S4x16x192x56x56 .f32) (t : IVec S16 32) (pe : FVec F S1x1000x192 .f32)
    (h : Cert.Pre_t_idx_in_range.fn (F := F) x t pe = fun _ => 1#1) (j : S16.Idx) : (t j).toNat < 1000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h j
  simp only [Pre_t_idx_in_range.fn, andi, cmpi, broadcastInDim, constantI, IntOp.cmpi, andi_ofBool, ofBool_eq_one, Bool.and_eq_true] at e
  obtain ⟨hge, hlt⟩ := e
  simp only [BitVec.sle, BitVec.slt, decide_eq_true_eq, BitVec.toInt, BitVec.toNat_ofNat] at hge hlt
  omega

/-- A word below 1000 reads the same signed. -/
theorem toInt_of_lt {v : BitVec 32} (h : v.toNat < 1000) : v.toInt = (v.toNat : Int) := by
  unfold BitVec.toInt; split <;> omega

/-- The gather read at `(0, b, d)`: row `idx[b, 0]` of the table, at lane `d`, when that word names a row. -/
theorem gather_at {α : Type} (x : S1x1000x192.Idx → α) (idx : IVec S16x1 32) (b : Fin 16) (d : Fin 192)
    (h : (idx (ix2 b (0 : Fin 1))).toNat < 1000) :
    Host.gather gather_S1x1000x192_S16x1_S1x16x192_02_1_n_n_1_1_11192 x idx (ix3 (0 : Fin 1) b d)
      = x (ix3 (0 : Fin 1) (PosEmb.rowNo (idx (ix2 b (0 : Fin 1)))) d) := by
  unfold Host.gather
  refine congrArg x (funext fun a => ?_)
  match a with
  | ⟨0, _⟩ => exact Subsingleton.elim (α := Fin 1) _ _
  | ⟨1, _⟩ =>
    refine Fin.ext ?_
    show GatherDims.start _ _ idx 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S1x1000x192_S16x1_S1x16x192_02_1_n_n_1_1_11192.startIndexMap from List.mem_singleton.mpr rfl)]
    have hsi : gather_S1x1000x192_S16x1_S1x16x192_02_1_n_n_1_1_11192.siIdx (ix3 (0 : Fin 1) b d)
        ⟨List.idxOf (1 : Fin 3) gather_S1x1000x192_S16x1_S1x16x192_02_1_n_n_1_1_11192.startIndexMap,
          List.idxOf_lt_length_iff.2 (List.mem_singleton.mpr rfl)⟩ = ix2 b (0 : Fin 1) := by
      funext k; refine Fin.ext ?_
      match k with
      | ⟨0, _⟩ => rfl
      | ⟨1, _⟩ => rfl
    rw [hsi, toInt_of_lt h]
    show min ((idx (ix2 b (0 : Fin 1))).toNat : Int).toNat (1000 - 1) = (idx (ix2 b (0 : Fin 1))).toNat % 1000
    omega
  | ⟨2, _⟩ =>
    refine Fin.ext ?_
    show GatherDims.start _ _ idx 2 + GatherDims.batchCoord _ _ 2 + GatherDims.offCoord _ _ 2 = d.val
    rw [GatherDims.batchCoord_eq_zero _ _ _ List.not_mem_nil]
    unfold GatherDims.start
    rw [dif_neg (show (2 : Fin 3) ∉ gather_S1x1000x192_S16x1_S1x16x192_02_1_n_n_1_1_11192.startIndexMap from fun h => absurd (List.mem_singleton.mp h) (by decide))]
    simp only [Nat.zero_add]
    rfl

/-- The negative row numbers' guard does nothing: there are none. -/
theorem wrap_eq (t : IVec S16 32) (hR : ∀ j, (t j).toNat < 1000) :
    select (cmpi .slt t (broadcastInDim S16 ![] bcast_S_S16 (constantI S_ 32 0#32))) (addi t (broadcastInDim S16 ![] bcast_S_S16 (constantI S_ 32 1000#32))) t = t := by
  funext j
  have h0 : (t j).slt 0#32 = false := by
    simp only [BitVec.slt, toInt_of_lt (hR j)]; simp
  show Scalar.select (BitVec.ofBool ((t j).slt 0#32)) _ (t j) = t j
  rw [h0]; rfl

/-- The guard of rows outside the table does nothing: every row number is inside. -/
theorem mask_eq (t : IVec S16 32) (hR : ∀ j, (t j).toNat < 1000) :
    Host.reduce IntOp.andi (andi (cmpi .sge (broadcastInDim S16x1 ![0] bcast_S16_S16x1_0 t) (broadcastInDim S16x1 ![] bcast_S_S16x1 (constantI S_ 32 0#32)))
        (cmpi .sle (broadcastInDim S16x1 ![0] bcast_S16_S16x1_0 t) (broadcastInDim S16x1 ![0, 1] bcast_S1x1_S16x1_0_1 (broadcastInDim S1x1 ![1] bcast_S1_S1x1_1 (constantI S1 32 999#32)))))
      (constantI S_ 1 1#1) reducesTo_S16x1_S16_d1 h_S_ = fun _ => 1#1 := by
  funext j
  refine Host.reduce_andi_one _ _ _ _ _ rfl fun i => ?_
  have key : ∀ v : BitVec 32, v.toNat < 1000 → IntOp.andi (BitVec.ofBool ((0#32).sle v)) (BitVec.ofBool (v.sle 999#32)) = 1#1 := fun v hv => by
    have h1 : (0#32).sle v = true := by simp only [BitVec.sle, toInt_of_lt hv]; simp
    have h2 : v.sle 999#32 = true := by
      simp only [BitVec.sle, toInt_of_lt hv, decide_eq_true_eq]
      show (v.toNat : Int) ≤ 999
      omega
    rw [h1, h2]; rfl
  exact key _ (hR _)

/-- The rows taken, at `(0, b, d)`: row `t[b]` of the table at lane `d`. -/
theorem row_at (pe : FVec F S1x1000x192 .f32) (z : FVec F S1x16x192 .f32) (t : IVec S16 32) (hR : ∀ j, (t j).toNat < 1000) (b : Fin 16) (d : Fin 192) :
    select (broadcastInDim S1x16x192 ![1] bcast_S16_S1x16x192_1 ((fun _ => 1#1) : IVec S16 1))
      (Host.gather gather_S1x1000x192_S16x1_S1x16x192_02_1_n_n_1_1_11192 pe (broadcastInDim S16x1 ![0] bcast_S16_S16x1_0 t)) z (ix3 (0 : Fin 1) b d)
      = pe (ix3 (0 : Fin 1) (PosEmb.rowNo (t (PosEmb.frameIx b))) d) := by
  have hj : broadcastInDim S16x1 ![0] bcast_S16_S16x1_0 t (ix2 b (0 : Fin 1)) = t (PosEmb.frameIx b) :=
    congrArg t (funext fun k => by match k with | ⟨0, _⟩ => rfl)
  have e := gather_at pe (broadcastInDim S16x1 ![0] bcast_S16_S16x1_0 t) b d (by rw [hj]; exact hR _)
  rw [hj] at e
  exact (select_one _ _).trans e

/-- The reference's run, from row numbers that lie in the table. -/
theorem run (m : (ℓ : Loc nD τ sig) → Buf (Elt F) ℓ) (ρ : Dev nD → PrngReg)
    (hR : ∀ (c : Dev nD) (j : S16.Idx), (m ((c : Thread nD τ).loc main_arg1) j : BitVec 32).toNat < 1000) :
    θ_run defs (onTc (τ := τ) (main (F := F))) ⟨m, fun _ => 0, ρ⟩ (fun r => ∀ c : Dev nD,
      r.2.mem ((c : Thread nD τ).loc main_v3)
        = PosEmb.embed (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨(h c).1.trans (by
      rw [wrap_eq _ (hR c), mask_eq _ (hR c)]
      funext y
      obtain ⟨a, b, d, h, w, rfl⟩ : ∃ (a : Fin 4) (b : Fin 16) (d : Fin 192) (h : Fin 56) (w : Fin 56), y = ix5 a b d h w := ⟨y 0, y 1, y 2, y 3, y 4, eq_ix5 y⟩
      refine congrArg (FloatOps.addf _) ?_
      refine (shapeCast_apply _ _ _ (ix3 (0 : Fin 1) b d : S1x16x192.Idx) ?_).trans ?_
      · rw [Shape.rowMajor_val_three, Shape.rowMajor_val_five]
        show (0 * 16 + b.val) * 192 + d.val = (((0 * 16 + b.val) * 192 + d.val) * 1 + 0) * 1 + 0
        omega
      · exact row_at _ _ _ (hR c) b d), (h c).2⟩)
    (Value.run m ρ)

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_t_idx_in_range
public import proofs.«01_k».proof.Proof.KRun
public import proofs.«01_k».proof.Proof.KIRun
public import proofs.«01_k».proof.Proof.Ref
public import Idealize.ShloMosaic.Adequacy
public import Idealize.ShloMosaic.Init

@[expose] public section

noncomputable section

namespace Cert.Proof

open Idealize.ShloMosaic Idealize.SL.Sem

/-- The kernel's frame. -/
theorem frame_p : Cert.quiescent_Kernel := fun m ρ hpre =>
  (θ_run Cert.Kernel.defs _ _).mono (fun _ h => ⟨fun c => (h.1 c).2, h.2⟩)
    (Cert.Kernel.Hand.run m ρ fun c => Cert.ReferenceIdeal.Hand.inRange_of_pre _ _ _ (hpre c))

/-- The idealization's frame. -/
theorem frame_pi : Cert.quiescent_KernelIdeal := fun m ρ hpre =>
  (θ_run Cert.KernelIdeal.defs _ _).mono (fun _ h => ⟨fun c => (h.1 c).2, h.2⟩)
    (Cert.KernelIdeal.Hand.run m ρ fun c => Cert.ReferenceIdeal.Hand.inRange_of_pre _ _ _ (hpre c))

/-- The reference's frame, from any arguments: it declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both runs end at the position embedding added to the same arguments. -/
theorem algebraic : Cert.algebraic_KernelIdeal_ReferenceIdeal := fun m ρ m' ρ' hpre hagree => by
  have hR (c : Dev Cert.KernelIdeal.nD) := Cert.ReferenceIdeal.Hand.inRange_of_pre _ _ _ (hpre c)
  refine ⟨_, (θ_run Cert.KernelIdeal.defs _ _).mono (fun _ h => h.1) (Cert.KernelIdeal.Hand.run m ρ hR), ?_⟩
  refine (θ_run Cert.ReferenceIdeal.defs _ _).mono (fun _ h c => ⟨(h c).1.trans ?_, (h c).2⟩)
    (Cert.ReferenceIdeal.Hand.run m' ρ' fun c j => by rw [(hagree c).2.1]; exact hR c j)
  rw [(hagree c).1, (hagree c).2.1, (hagree c).2.2]

theorem claim : Cert.Claim := ⟨Cert.Kernel.Gen.facts, Cert.KernelIdeal.Gen.facts, Cert.ReferenceIdeal.Gen.facts, Cert.Pre_t_idx_in_range.Gen.facts,
  frame_p, frame_pi, frame_ri, fun m ρ _ => frame_ri m ρ trivial, trivial, algebraic⟩

end Cert.Proof

end
